-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_Reference (m : (ℓ : Loc Cert.Reference.nD Cert.Reference.τ Cert.Reference.sig) → Buf (Elt Bits) ℓ) : Prop :=
  True

def Pre_Reference_in_range [hPre_in_range : Cert.Pre_in_range.Facts] (m : (ℓ : Loc Cert.Reference.nD Cert.Reference.τ Cert.Reference.sig) → Buf (Elt Bits) ℓ) : Prop :=
  ∀ c : Dev Cert.Reference.nD,
    (Cert.Pre_in_range.fn (F := Bits) (m ((c.tc : Thread Cert.Reference.nD Cert.Reference.τ).loc Cert.Reference.main_arg0)) (m ((c.tc : Thread Cert.Reference.nD Cert.Reference.τ).loc Cert.Reference.main_arg1)) (m ((c.tc : Thread Cert.Reference.nD Cert.Reference.τ).loc Cert.Reference.main_arg2)) (m ((c.tc : Thread Cert.Reference.nD Cert.Reference.τ).loc Cert.Reference.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_Reference [hReference : Cert.Reference.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1)
      ∧ r.2.mem ((c.tc : Thread Cert.Reference.nD Cert.Reference.τ).loc Cert.Reference.main_arg2) = m ((c.tc : Thread Cert.Reference.nD Cert.Reference.τ).loc Cert.Reference.main_arg2)
      ∧ r.2.mem ((c.tc : Thread Cert.Reference.nD Cert.Reference.τ).loc Cert.Reference.main_arg3) = m ((c.tc : Thread Cert.Reference.nD Cert.Reference.τ).loc Cert.Reference.main_arg3))
      ∧ r.2.sem = fun _ => 0)

def quiescent_Reference_pre_in_range [hReference : Cert.Reference.Facts] [hPre_in_range : Cert.Pre_in_range.Facts] : Prop :=
  ∀ (m : (ℓ : Loc Cert.Reference.nD Cert.Reference.τ Cert.Reference.sig) → Buf (Elt Bits) ℓ) (g : Dev Cert.Reference.nD → PrngReg), Pre_Reference_in_range m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1)
      ∧ r.2.mem ((c.tc : Thread Cert.Reference.nD Cert.Reference.τ).loc Cert.Reference.main_arg2) = m ((c.tc : Thread Cert.Reference.nD Cert.Reference.τ).loc Cert.Reference.main_arg2)
      ∧ r.2.mem ((c.tc : Thread Cert.Reference.nD Cert.Reference.τ).loc Cert.Reference.main_arg3) = m ((c.tc : Thread Cert.Reference.nD Cert.Reference.τ).loc Cert.Reference.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def bitexact_Kernel_Reference [hKernel : Cert.Kernel.Facts] [hReference : Cert.Reference.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel m →
    (∀ c : Dev Cert.Kernel.nD,
      m' ((c.tc : Thread Cert.Reference.nD Cert.Reference.τ).loc Cert.Reference.main_arg0) = m ((c.tc : Thread Cert.Kernel.nD Cert.Kernel.τ).loc Cert.Kernel.main_arg0)
      ∧ m' ((c.tc : Thread Cert.Reference.nD Cert.Reference.τ).loc Cert.Reference.main_arg1) = m ((c.tc : Thread Cert.Kernel.nD Cert.Kernel.τ).loc Cert.Kernel.main_arg1)
      ∧ m' ((c.tc : Thread Cert.Reference.nD Cert.Reference.τ).loc Cert.Reference.main_arg2) = m ((c.tc : Thread Cert.Kernel.nD Cert.Kernel.τ).loc Cert.Kernel.main_arg2)
      ∧ m' ((c.tc : Thread Cert.Reference.nD Cert.Reference.τ).loc Cert.Reference.main_arg3) = m ((c.tc : Thread Cert.Kernel.nD Cert.Kernel.τ).loc Cert.Kernel.main_arg3)) →
    ∃ (v0 : (c : Dev Cert.Kernel.nD) → Buf (Elt Bits) ((c.tc : Thread Cert.Kernel.nD Cert.Kernel.τ).loc Cert.Kernel.main_v4)) (v1 : (c : Dev Cert.Kernel.nD) → Buf (Elt Bits) ((c.tc : Thread Cert.Kernel.nD Cert.Kernel.τ).loc Cert.Kernel.main_v6)),
      θ_run (Cert.Kernel.defs (F := Bits)) (Cert.Kernel.threads (F := Bits)) ⟨m, fun _ => 0, g⟩ (fun r => ∀ c : Dev Cert.Kernel.nD,
          r.2.mem ((c.tc : Thread Cert.Kernel.nD Cert.Kernel.τ).loc Cert.Kernel.main_v4) = v0 c
          ∧ r.2.mem ((c.tc : Thread Cert.Kernel.nD Cert.Kernel.τ).loc Cert.Kernel.main_v6) = v1 c
          ∧ r.2.mem ((c.tc : Thread Cert.Kernel.nD Cert.Kernel.τ).loc Cert.Kernel.main_arg0) = m ((c.tc : Thread Cert.Kernel.nD Cert.Kernel.τ).loc Cert.Kernel.main_arg0)
          ∧ r.2.mem ((c.tc : Thread Cert.Kernel.nD Cert.Kernel.τ).loc Cert.Kernel.main_arg1) = m ((c.tc : Thread Cert.Kernel.nD Cert.Kernel.τ).loc Cert.Kernel.main_arg1)
          ∧ r.2.mem ((c.tc : Thread Cert.Kernel.nD Cert.Kernel.τ).loc Cert.Kernel.main_arg2) = m ((c.tc : Thread Cert.Kernel.nD Cert.Kernel.τ).loc Cert.Kernel.main_arg2)
          ∧ r.2.mem ((c.tc : Thread Cert.Kernel.nD Cert.Kernel.τ).loc Cert.Kernel.main_arg3) = m ((c.tc : Thread Cert.Kernel.nD Cert.Kernel.τ).loc Cert.Kernel.main_arg3))
      ∧ θ_run (Cert.Reference.defs (F := Bits)) (onTc (τ := Cert.Reference.τ) (Cert.Reference.main (F := Bits))) ⟨m', fun _ => 0, g'⟩ (fun r => ∀ c : Dev Cert.Reference.nD,
          r.2.mem ((c.tc : Thread Cert.Reference.nD Cert.Reference.τ).loc Cert.Reference.main_v0) = v0 c
          ∧ r.2.mem ((c.tc : Thread Cert.Reference.nD Cert.Reference.τ).loc Cert.Reference.main_v1) = v1 c
          ∧ r.2.mem ((c.tc : Thread Cert.Reference.nD Cert.Reference.τ).loc Cert.Reference.main_arg0) = m' ((c.tc : Thread Cert.Reference.nD Cert.Reference.τ).loc Cert.Reference.main_arg0)
          ∧ r.2.mem ((c.tc : Thread Cert.Reference.nD Cert.Reference.τ).loc Cert.Reference.main_arg1) = m' ((c.tc : Thread Cert.Reference.nD Cert.Reference.τ).loc Cert.Reference.main_arg1)
          ∧ r.2.mem ((c.tc : Thread Cert.Reference.nD Cert.Reference.τ).loc Cert.Reference.main_arg2) = m' ((c.tc : Thread Cert.Reference.nD Cert.Reference.τ).loc Cert.Reference.main_arg2)
          ∧ r.2.mem ((c.tc : Thread Cert.Reference.nD Cert.Reference.τ).loc Cert.Reference.main_arg3) = m' ((c.tc : Thread Cert.Reference.nD Cert.Reference.τ).loc Cert.Reference.main_arg3))

def algebraic_KernelIdeal_ReferenceIdeal [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v4)) (v1 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_v6) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_v1) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReference : Cert.Reference.Facts) (hReferenceIdeal : Cert.ReferenceIdeal.Facts) (hPre_in_range : Cert.Pre_in_range.Facts),
    quiescent_Kernel (hKernel := hKernel) (hPre_in_range := hPre_in_range)
    ∧ quiescent_KernelIdeal (hKernelIdeal := hKernelIdeal) (hPre_in_range := hPre_in_range)
    ∧ quiescent_Reference (hReference := hReference)
    ∧ quiescent_Reference_pre_in_range (hReference := hReference) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ bitexact_Kernel_Reference (hKernel := hKernel) (hReference := hReference) (hPre_in_range := hPre_in_range)
    ∧ algebraic_KernelIdeal_ReferenceIdeal (hKernelIdeal := hKernelIdeal) (hReferenceIdeal := hReferenceIdeal) (hPre_in_range := hPre_in_range)
-- ==== Pre_in_range.lean ====
abbrev S4x8192x2048 : Shape := ⟨3, ![4, 8192, 2048]⟩
abbrev S4x8192 : Shape := ⟨2, ![4, 8192]⟩
abbrev S131072x64 : Shape := ⟨2, ![131072, 64]⟩
abbrev S_ : Shape := ⟨0, ![]⟩

class Facts : Prop where
  bcast_S_S4x8192 : S_.BroadcastsInDim S4x8192 (![] : Fin 0 → Fin S4x8192.rank)
  reducesTo_S4x8192_S_d0_1 : S4x8192.ReducesTo [0, 1] S_
  h_S_ : 0 < S_.numel

variable [Facts]

def fn {F : FTy → Type} [FloatOps F] (main_arg0 : FVec F S4x8192x2048 .f32) (main_arg1 : IVec S4x8192 32) (main_arg2 : FVec F S131072x64 .f32) (main_arg3 : FVec F S131072x64 .f32) : IVec S_ 1 :=
  let main_c : IVec S_ 32 := constantI S_ 32 0#32
  let main_v0 : IVec S4x8192 32 := broadcastInDim S4x8192 ![] bcast_S_S4x8192 main_c
  let main_v1 : IVec S4x8192 1 := cmpi .sge main_arg1 main_v0
  let main_c_0 : IVec S_ 32 := constantI S_ 32 131072#32
  let main_v2 : IVec S4x8192 32 := broadcastInDim S4x8192 ![] bcast_S_S4x8192 main_c_0
  let main_v3 : IVec S4x8192 1 := cmpi .slt main_arg1 main_v2
  let main_v4 : IVec S4x8192 1 := andi main_v1 main_v3
  let main_c_1 : IVec S_ 1 := constantI S_ 1 1#1
  let main_v5 : IVec S_ 1 := (fun x v => Host.reduce IntOp.andi x v reducesTo_S4x8192_S_d0_1 h_S_) main_v4 main_c_1
  main_v5
-- ==== Kernel.lean ====
abbrev S4x8192x2048 : Shape := ⟨3, ![4, 8192, 2048]⟩
abbrev S4x8192 : Shape := ⟨2, ![4, 8192]⟩
abbrev S131072x64 : Shape := ⟨2, ![131072, 64]⟩
abbrev S131072x128 : Shape := ⟨2, ![131072, 128]⟩
abbrev S32768 : Shape := ⟨1, ![32768]⟩
abbrev S32768x128 : Shape := ⟨2, ![32768, 128]⟩
abbrev S1024 : Shape := ⟨1, ![1024]⟩
abbrev S512x128 : Shape := ⟨2, ![512, 128]⟩
abbrev S_ : Shape := ⟨0, ![]⟩
abbrev S512 : Shape := ⟨1, ![512]⟩
abbrev S32768x64 : Shape := ⟨2, ![32768, 64]⟩
abbrev S4x8192x64 : Shape := ⟨3, ![4, 8192, 64]⟩

abbrev nBuf : Table → Nat
  | .hbm => 11
  | .local .scVector .vmem => 2
  | _ => 0

abbrev bufTy : (tb : Table) → Fin (nBuf tb) → BufTy
  | .hbm, ⟨0, _⟩ => ⟨S4x8192x2048, .f32⟩
  | .hbm, ⟨1, _⟩ => ⟨S4x8192, .i32⟩
  | .hbm, ⟨2, _⟩ => ⟨S131072x64, .f32⟩
  | .hbm, ⟨3, _⟩ => ⟨S131072x64, .f32⟩
  | .hbm, ⟨4, _⟩ => ⟨S131072x128, .f32⟩
  | .hbm, ⟨5, _⟩ => ⟨S32768, .i32⟩
  | .hbm, ⟨6, _⟩ => ⟨S32768x128, .f32⟩
  | .hbm, ⟨7, _⟩ => ⟨S32768x64, .f32⟩
  | .hbm, ⟨8, _⟩ => ⟨S4x8192x64, .f32⟩
  | .hbm, ⟨9, _⟩ => ⟨S32768x64, .f32⟩
  | .hbm, ⟨10, _⟩ => ⟨S4x8192x64, .f32⟩
  | .local .scVector .vmem, ⟨0, _⟩ => ⟨S1024, .i32⟩
  | .local .scVector .vmem, ⟨1, _⟩ => ⟨S512x128, .f32⟩
  | _, _ => ⟨S4x8192x2048, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 4 → Bool
  | ⟨0, _⟩ => false
  | ⟨1, _⟩ => false
  | ⟨2, _⟩ => false
  | ⟨3, _⟩ => false
  | _ => false

abbrev sig : RefSig :=
  ofTables nBuf rfl bufTy 4 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v0_scv : Ref sig .scVector := ⟨.hbm, 4, rfl⟩
abbrev main_v1_scv : Ref sig .scVector := ⟨.hbm, 5, rfl⟩
abbrev main_v2_scv : Ref sig .scVector := ⟨.hbm, 6, rfl⟩
abbrev cc0_scratch0 : Ref sig .scVector := ⟨.vmem, 0, rfl⟩
abbrev cc0_scratch1 : Ref sig .scVector := ⟨.vmem, 1, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  ![v2.toNat]
def k0_off2 (i : grid0.Coords) (c0_i32_5 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v7 : BitVec 32 := Scalar.addi v2 c0_i32_5
  let c0_i32_12_r1 : BitVec 32 := 0#32
  ![v7.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== Reference.lean ====
abbrev S4x8192x2048 : Shape := ⟨3, ![4, 8192, 2048]⟩
abbrev S4x8192 : Shape := ⟨2, ![4, 8192]⟩
abbrev S131072x64 : Shape := ⟨2, ![131072, 64]⟩
abbrev S_ : Shape := ⟨0, ![]⟩
abbrev S4x8192x1 : Shape := ⟨3, ![4, 8192, 1]⟩
abbrev S1 : Shape := ⟨1, ![1]⟩
abbrev S1x1x1 : Shape := ⟨3, ![1, 1, 1]⟩
abbrev S4x8192x64 : Shape := ⟨3, ![4, 8192, 64]⟩

abbrev nBuf : Space → Nat
  | .hbm => 50
  | .vmem => 0
  | .smem => 0
  | _ => 0

abbrev bufTy : (tb : Table) → Fin (tcTables nBuf tb) → BufTy
  | .hbm, ⟨0, _⟩ => ⟨S4x8192x2048, .f32⟩
  | .hbm, ⟨1, _⟩ => ⟨S4x8192, .i32⟩
  | .hbm, ⟨2, _⟩ => ⟨S131072x64, .f32⟩
  | .hbm, ⟨3, _⟩ => ⟨S131072x64, .f32⟩
  | .hbm, ⟨4, _⟩ => ⟨S_, .i32⟩
  | .hbm, ⟨5, _⟩ => ⟨S4x8192, .i32⟩
  | .hbm, ⟨6, _⟩ => ⟨S4x8192, .i1⟩
  | .hbm, ⟨7, _⟩ => ⟨S_, .i32⟩
  | .hbm, ⟨8, _⟩ => ⟨S4x8192, .i32⟩
  | .hbm, ⟨9, _⟩ => ⟨S4x8192, .i32⟩
  | .hbm, ⟨10, _⟩ => ⟨S4x8192, .i32⟩
  | .hbm, ⟨11, _⟩ => ⟨S4x8192x1, .i32⟩
  | .hbm, ⟨12, _⟩ => ⟨S1, .i32⟩
  | .hbm, ⟨13, _⟩ => ⟨S_, .i32⟩
  | .hbm, ⟨14, _⟩ => ⟨S4x8192x1, .i32⟩
  | .hbm, ⟨15, _⟩ => ⟨S4x8192x1, .i1⟩
  | .hbm, ⟨16, _⟩ => ⟨S1x1x1, .i32⟩
  | .hbm, ⟨17, _⟩ => ⟨S4x8192x1, .i32⟩
  | .hbm, ⟨18, _⟩ => ⟨S4x8192x1, .i1⟩
  | .hbm, ⟨19, _⟩ => ⟨S4x8192x1, .i1⟩
  | .hbm, ⟨20, _⟩ => ⟨S_, .i1⟩
  | .hbm, ⟨21, _⟩ => ⟨S4x8192, .i1⟩
  | .hbm, ⟨22, _⟩ => ⟨S4x8192x64, .f32⟩
  | .hbm, ⟨23, _⟩ => ⟨S4x8192x64, .i1⟩
  | .hbm, ⟨24, _⟩ => ⟨S_, .f32⟩
  | .hbm, ⟨25, _⟩ => ⟨S4x8192x64, .f32⟩
  | .hbm, ⟨26, _⟩ => ⟨S4x8192x64, .f32⟩
  | .hbm, ⟨27, _⟩ => ⟨S_, .i32⟩
  | .hbm, ⟨28, _⟩ => ⟨S4x8192, .i32⟩
  | .hbm, ⟨29, _⟩ => ⟨S4x8192, .i1⟩
  | .hbm, ⟨30, _⟩ => ⟨S_, .i32⟩
  | .hbm, ⟨31, _⟩ => ⟨S4x8192, .i32⟩
  | .hbm, ⟨32, _⟩ => ⟨S4x8192, .i32⟩
  | .hbm, ⟨33, _⟩ => ⟨S4x8192, .i32⟩
  | .hbm, ⟨34, _⟩ => ⟨S4x8192x1, .i32⟩
  | .hbm, ⟨35, _⟩ => ⟨S1, .i32⟩
  | .hbm, ⟨36, _⟩ => ⟨S_, .i32⟩
  | .hbm, ⟨37, _⟩ => ⟨S4x8192x1, .i32⟩
  | .hbm, ⟨38, _⟩ => ⟨S4x8192x1, .i1⟩
  | .hbm, ⟨39, _⟩ => ⟨S1x1x1, .i32⟩
  | .hbm, ⟨40, _⟩ => ⟨S4x8192x1, .i32⟩
  | .hbm, ⟨41, _⟩ => ⟨S4x8192x1, .i1⟩
  | .hbm, ⟨42, _⟩ => ⟨S4x8192x1, .i1⟩
  | .hbm, ⟨43, _⟩ => ⟨S_, .i1⟩
  | .hbm, ⟨44, _⟩ => ⟨S4x8192, .i1⟩
  | .hbm, ⟨45, _⟩ => ⟨S4x8192x64, .f32⟩
  | .hbm, ⟨46, _⟩ => ⟨S4x8192x64, .i1⟩
  | .hbm, ⟨47, _⟩ => ⟨S_, .f32⟩
  | .hbm, ⟨48, _⟩ => ⟨S4x8192x64, .f32⟩
  | .hbm, ⟨49, _⟩ => ⟨S4x8192x64, .f32⟩
  | _, _ => ⟨S4x8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_c : Ref sig .tc := ⟨.hbm, 4, rfl⟩
abbrev main_call0_v0 : Ref sig .tc := ⟨.hbm, 5, rfl⟩
abbrev main_call0_v1 : Ref sig .tc := ⟨.hbm, 6, rfl⟩
abbrev main_call0_c_0 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_c_1 : Ref sig .tc := ⟨.hbm, 12, rfl⟩
abbrev main_call0_c_2 : Ref sig .tc := ⟨.hbm, 13, rfl⟩
abbrev main_call0_v6 : Ref sig .tc := ⟨.hbm, 14, rfl⟩
abbrev main_call0_v7 : Ref sig .tc := ⟨.hbm, 15, rfl⟩
abbrev main_call0_v8 : Ref sig .tc := ⟨.hbm, 16, rfl⟩
abbrev main_call0_v9 : Ref sig .tc := ⟨.hbm, 17, rfl⟩
abbrev main_call0_v10 : Ref sig .tc := ⟨.hbm, 18, rfl⟩
abbrev main_call0_v11 : Ref sig .tc := ⟨.hbm, 19, rfl⟩
abbrev main_call0_c_3 : Ref sig .tc := ⟨.hbm, 20, rfl⟩
abbrev main_call0_v12 : Ref sig .tc := ⟨.hbm, 21, rfl⟩
abbrev main_call0_v13 : Ref sig .tc := ⟨.hbm, 22, rfl⟩
abbrev main_call0_v14 : Ref sig .tc := ⟨.hbm, 23, rfl⟩
abbrev main_call0_cst : Ref sig .tc := ⟨.hbm, 24, rfl⟩
abbrev main_call0_v15 : Ref sig .tc := ⟨.hbm, 25, rfl⟩
abbrev main_v0 : Ref sig .tc := ⟨.hbm, 26, rfl⟩
abbrev main_call1_c : Ref sig .tc := ⟨.hbm, 27, rfl⟩
abbrev main_call1_v0 : Ref sig .tc := ⟨.hbm, 28, rfl⟩
abbrev main_call1_v1 : Ref sig .tc := ⟨.hbm, 29, rfl⟩
abbrev main_call1_c_0 : Ref sig .tc := ⟨.hbm, 30, rfl⟩
abbrev main_call1_v2 : Ref sig .tc := ⟨.hbm, 31, rfl⟩
abbrev main_call1_v3 : Ref sig .tc := ⟨.hbm, 32, rfl⟩
abbrev main_call1_v4 : Ref sig .tc := ⟨.hbm, 33, rfl⟩
abbrev main_call1_v5 : Ref sig .tc := ⟨.hbm, 34, rfl⟩
abbrev main_call1_c_1 : Ref sig .tc := ⟨.hbm, 35, rfl⟩
abbrev main_call1_c_2 : Ref sig .tc := ⟨.hbm, 36, rfl⟩
abbrev main_call1_v6 : Ref sig .tc := ⟨.hbm, 37, rfl⟩
abbrev main_call1_v7 : Ref sig .tc := ⟨.hbm, 38, rfl⟩
abbrev main_call1_v8 : Ref sig .tc := ⟨.hbm, 39, rfl⟩
abbrev main_call1_v9 : Ref sig .tc := ⟨.hbm, 40, rfl⟩
abbrev main_call1_v10 : Ref sig .tc := ⟨.hbm, 41, rfl⟩
abbrev main_call1_v11 : Ref sig .tc := ⟨.hbm, 42, rfl⟩
abbrev main_call1_c_3 : Ref sig .tc := ⟨.hbm, 43, rfl⟩
abbrev main_call1_v12 : Ref sig .tc := ⟨.hbm, 44, rfl⟩
abbrev main_call1_v13 : Ref sig .tc := ⟨.hbm, 45, rfl⟩
abbrev main_call1_v14 : Ref sig .tc := ⟨.hbm, 46, rfl⟩
abbrev main_call1_cst : Ref sig .tc := ⟨.hbm, 47, rfl⟩
abbrev main_call1_v15 : Ref sig .tc := ⟨.hbm, 48, rfl⟩
abbrev main_v1 : Ref sig .tc := ⟨.hbm, 49, rfl⟩

abbrev nD : Nat := 1
abbrev τ : Topo := Topo.v7x

variable {F : FTy → Type} [FloatOps F]
-- ==== Proof.Gathered.lean ====
/-
  The mathematics of the SparseCore call, apart from any program: row `n` of the result is the row of the table that
  word `n` of the index list names.
-/
module

public import Idealize.ShloMosaic.Lib.SparseCore.Stream

@[expose] public section

noncomputable section

namespace Cert.Rows

open Idealize.ShloMosaic

/-- The fused table, the flat index list and the gathered rows. -/
abbrev STable : Shape := ⟨2, ![131072, 128]⟩
abbrev SList : Shape := ⟨1, ![32768]⟩
abbrev SRows : Shape := ⟨2, ![32768, 128]⟩

/-- Entry `n` of the index list. -/
abbrev listAt (n : Fin 32768) : SList.Idx := fun
  | 0 => n

/-- Row `r`, lane `j` of the table. -/
abbrev tableAt (r : Fin 131072) (j : Fin 128) : STable.Idx := fun
  | 0 => r
  | 1 => j

/-- Every word of the list names a row of the table. -/
def InRange (idx : SList.Idx → BitVec 32) : Prop := ∀ n, (idx n).toNat < 131072

/-- The gathered rows: row `n` is the table's row at the `n`-th word (reduced, so that it is total in the word). -/
def gathered {α : Type} (tab : STable.Idx → α) (idx : SList.Idx → BitVec 32) : SRows.Idx → α := fun x =>
  tab (tableAt ⟨(idx (listAt (x 0))).toNat % 131072, Nat.mod_lt _ (by decide)⟩ (x 1))

/-- In range, the row read is the word itself. -/
theorem gathered_eq {α : Type} (tab : STable.Idx → α) (idx : SList.Idx → BitVec 32) (h : InRange idx) (x : SRows.Idx) :
    gathered tab idx x = tab (tableAt ⟨(idx (listAt (x 0))).toNat, h _⟩ (x 1)) := by
  unfold gathered
  congr 2
  exact Fin.ext (Nat.mod_eq_of_lt (h _))

end Cert.Rows

end
-- ==== Proof.Halves.lean ====
/-
  Plain facts about arrays, for any element type: what the two halves of the gathered rows hold, and what the reference's
  `take` of a table holds. Both are `looked tab idx`: at batch `b`, position `s`, lane `j`, the table's entry in lane `j` of
  the row that `idx` names at `(b, s)`.
-/
module

public import proofs.«01_k».proof.Proof.Gathered
public import Idealize.ShloMosaic.Lib.Pipeline.Value
public import Idealize.ShloMosaic.Lib.ReduceAll
public import Idealize.ShloMosaic.Lib.StableHlo.Predicate

@[expose] public section

noncomputable section

namespace Cert.Rows

open Idealize.ShloMosaic

/-- One table, the index array, one half of the result's rows, and a result. -/
abbrev SHalf : Shape := ⟨2, ![131072, 64]⟩
abbrev SIdx : Shape := ⟨2, ![4, 8192]⟩
abbrev SHalfRows : Shape := ⟨2, ![32768, 64]⟩
abbrev SOut : Shape := ⟨3, ![4, 8192, 64]⟩
/-- The index array with a last axis of one entry. -/
abbrev SIdx1 : Shape := ⟨3, ![4, 8192, 1]⟩

/-- Row `r`, lane `j` of one table. -/
abbrev halfAt (r : Fin 131072) (j : Fin 64) : SHalf.Idx := fun
  | 0 => r
  | 1 => j
/-- Batch `b`, position `s` of the index array. -/
abbrev idxAt (b : Fin 4) (s : Fin 8192) : SIdx.Idx := fun
  | 0 => b
  | 1 => s
abbrev idx1At (b : Fin 4) (s : Fin 8192) : SIdx1.Idx := fun
  | 0 => b
  | 1 => s
  | 2 => (0 : Fin 1)
/-- Row `n`, lane `j` of the gathered rows, and of one half of them. -/
abbrev rowAt (n : Fin 32768) (j : Fin 128) : SRows.Idx := fun
  | 0 => n
  | 1 => j
abbrev halfRowAt (n : Fin 32768) (j : Fin 64) : SHalfRows.Idx := fun
  | 0 => n
  | 1 => j

variable {α : Type}

/-- The table looked up at every index (the word reduced, so that it is total in the word). -/
def looked (tab : SHalf.Idx → α) (idx : SIdx.Idx → BitVec 32) : SOut.Idx → α := fun x =>
  tab (halfAt ⟨(idx (idxAt (x 0) (x 1))).toNat % 131072, Nat.mod_lt _ (by decide)⟩ (x 2))

/-! ## The kernel's side -/

/-- Entry `8192 * b + s` of the flat list is the index array's at `(b, s)`. -/
theorem flat_apply (idx : SIdx.Idx → BitVec 32) (h : SIdx.ShapeCasts SList) (n : Fin 32768) (b : Fin 4) (s : Fin 8192)
    (e : n.val = 8192 * b.val + s.val) : shapeCast SList idx h (listAt n) = idx (idxAt b s) := by
  unfold shapeCast
  congr 1
  refine Shape.reshapeEquiv_eq_of_rowMajor _ ?_
  rw [Shape.rowMajor_val_two, Shape.rowMajor_val_one]
  show b.val * 8192 + s.val = n.val
  omega

/-- Entry `(b, s, j)` of a result is entry `(8192 * b + s, j)` of the rows it is reshaped from. -/
theorem unflat_apply (z : SHalfRows.Idx → α) (h : SHalfRows.ShapeCasts SOut) (x : SOut.Idx) (n : Fin 32768)
    (e : n.val = 8192 * (x 0).val + (x 1).val) : shapeCast SOut z h x = z (halfRowAt n (x 2)) := by
  unfold shapeCast
  congr 1
  refine Shape.reshapeEquiv_eq_of_rowMajor _ ?_
  rw [Shape.rowMajor_val_two, Shape.rowMajor_val_three]
  show n.val * 64 + (x 2).val = ((x 0).val * 8192 + (x 1).val) * 64 + (x 2).val
  omega

/-- A gathered row, its index word given. -/
theorem gathered_row (tab : STable.Idx → α) (l : SList.Idx → BitVec 32) (n : Fin 32768) (j : Fin 128) (w : BitVec 32) (e : l (listAt n) = w) :
    gathered tab l (rowAt n j) = tab (tableAt ⟨w.toNat % 131072, Nat.mod_lt _ (by decide)⟩ j) := by
  subst e
  rfl

/-- The row number of a result's entry. -/
abbrev rowOf (x : SOut.Idx) : Fin 32768 :=
  ⟨8192 * (x 0).val + (x 1).val, by have h0 : (x 0).val < 4 := (x 0).isLt; have h1 : (x 1).val < 8192 := (x 1).isLt; omega⟩

variable (a b : SHalf.Idx → α) (idx : SIdx.Idx → BitVec 32) (hc : Shape.Concatenates [SHalf, SHalf] STable 1) (hf : SIdx.ShapeCasts SList)

/-- The first 64 lanes of the gathered rows look the first table up. -/
theorem low_eq (hs : SRows.Slices ![0, 0] SHalfRows) (hr : SHalfRows.ShapeCasts SOut) :
    shapeCast SOut (extractStridedSlice SHalfRows ![0, 0]
      (gathered (concatenate STable 1 [⟨SHalf, a⟩, ⟨SHalf, b⟩] hc) (shapeCast SList idx hf)) hs) hr = looked a idx := by
  funext x
  rw [unflat_apply _ _ _ (rowOf x) rfl]
  have hj : (x 2).val < 64 := (x 2).isLt
  unfold extractStridedSlice
  rw [show (fun ax : Fin 2 => (⟨(![0, 0] : Fin 2 → ℕ) ax + (halfRowAt (rowOf x) (x 2) (ax.cast hs.1.symm)).val,
      Nat.lt_of_lt_of_le (Nat.add_lt_add_left (halfRowAt (rowOf x) (x 2) _).isLt _) (hs.2 ax)⟩ : Fin (SRows.size ax)))
      = rowAt (rowOf x) ⟨(x 2).val, by omega⟩ from funext fun ax => Fin.ext (by
        match ax with
        | 0 => exact Nat.zero_add _
        | 1 => exact Nat.zero_add _)]
  rw [gathered_row _ _ _ _ _ (flat_apply idx hf (rowOf x) (x 0) (x 1) rfl)]
  unfold looked
  exact concatenate_pair_apply_left (t := STable) (s₁ := SHalf) (s₂ := SHalf) 1 a b hc _ rfl _ fun ax => by
    match ax with
    | 0 => rfl
    | 1 => rfl

/-- The last 64 lanes look the second table up. -/
theorem high_eq (hs : SRows.Slices ![0, 64] SHalfRows) (hr : SHalfRows.ShapeCasts SOut) :
    shapeCast SOut (extractStridedSlice SHalfRows ![0, 64]
      (gathered (concatenate STable 1 [⟨SHalf, a⟩, ⟨SHalf, b⟩] hc) (shapeCast SList idx hf)) hs) hr = looked b idx := by
  funext x
  rw [unflat_apply _ _ _ (rowOf x) rfl]
  have hj : (x 2).val < 64 := (x 2).isLt
  unfold extractStridedSlice
  rw [show (fun ax : Fin 2 => (⟨(![0, 64] : Fin 2 → ℕ) ax + (halfRowAt (rowOf x) (x 2) (ax.cast hs.1.symm)).val,
      Nat.lt_of_lt_of_le (Nat.add_lt_add_left (halfRowAt (rowOf x) (x 2) _).isLt _) (hs.2 ax)⟩ : Fin (SRows.size ax)))
      = rowAt (rowOf x) ⟨64 + (x 2).val, by omega⟩ from funext fun ax => Fin.ext (by
        match ax with
        | 0 => exact Nat.zero_add _
        | 1 => rfl)]
  rw [gathered_row _ _ _ _ _ (flat_apply idx hf (rowOf x) (x 0) (x 1) rfl)]
  unfold looked
  refine concatenate_pair_apply_right (t := STable) (s₁ := SHalf) (s₂ := SHalf) 1 a b hc _ rfl rfl _ (fun ax hax => ?_) ?_
  · match ax with
    | 0 => rfl
    | 1 => exact absurd rfl hax
  · show (x 2).val + 64 = 64 + (x 2).val
    omega

/-! ## The precondition -/

/-- A word that is at least 0 and below 131072, read signed, is below 131072 read as a natural number. -/
theorem word_lt (w : BitVec 32) (h : IntOp.andi (IntOp.cmpi .sge w 0#32) (IntOp.cmpi .slt w 131072#32) = 1#1) : w.toNat < 131072 := by
  obtain ⟨h0, h1⟩ := IntOp.andi_eq_one.1 h
  have e0 : (0 : ℤ) ≤ w.toInt := by
    have : (0#32).sle w = true := by
      unfold IntOp.cmpi at h0
      cases hh : (0#32).sle w
      · simp [hh] at h0
      · rfl
    simpa [BitVec.sle] using this
  have e1 : w.toInt < 131072 := by
    have : w.slt 131072#32 = true := by
      unfold IntOp.cmpi at h1
      cases hh : w.slt 131072#32
      · simp [hh] at h1
      · rfl
    simpa [BitVec.slt] using this
  have := BitVec.toInt_eq_toNat_cond w
  have := w.isLt
  split at * <;> omega

/-- The flat list of an index array in range is in range. -/
theorem flat_inRange (h : ∀ i, (idx i).toNat < 131072) : InRange (shapeCast SList idx hf) := fun _ => h _

/-! ## The reference's side -/

/-- The dimension numbers of a `take` of a table's rows. -/
abbrev takeDims (wf : GatherDims.WF SHalf SIdx1 SOut [2] [0] [] [0] [] 2 ![1, 64]) : GatherDims SHalf SIdx1 SOut :=
  { offsetDims := [2], collapsedSliceDims := [0], operandBatchingDims := [], startIndicesBatchingDims := [],
    startIndexMap := [0], indexVectorDim := 2, sliceSizes := ![1, 64], wf := wf }

/-- The take at one entry: the row named by the start index, clamped into the table. -/
theorem take_apply (wf : GatherDims.WF SHalf SIdx1 SOut [2] [0] [] [0] [] 2 ![1, 64]) (tab : SHalf.Idx → α) (w : SIdx1.Idx → BitVec 32)
    (x : SOut.Idx) :
    Host.gather (takeDims wf) tab w x
      = tab (halfAt ⟨min (w (idx1At (x 0) (x 1))).toInt.toNat 131071, by omega⟩ (x 2)) := by
  unfold Host.gather
  congr 1
  funext ax
  refine Fin.ext ?_
  show (takeDims wf).start x w ax + (takeDims wf).batchCoord x ax + (takeDims wf).offCoord x ax = _
  rw [GatherDims.batchCoord_eq_zero _ _ _ (fun h => List.not_mem_nil h)]
  match ax with
  | 0 =>
    rw [GatherDims.offCoord_eq_zero _ _ _ (fun h => ((GatherDims.mem_sKept _ _).mp h).1 (List.mem_singleton.mpr rfl))]
    simp only [Nat.add_zero]
    unfold GatherDims.start
    rw [dif_pos (show (0 : Fin 2) ∈ (takeDims wf).startIndexMap from List.mem_singleton.mpr rfl)]
    have hsi : (takeDims wf).siIdx x ⟨List.idxOf (0 : Fin 2) (takeDims wf).startIndexMap,
        List.idxOf_lt_length_iff.2 (List.mem_singleton.mpr rfl)⟩ = idx1At (x 0) (x 1) := by
      funext d; refine Fin.ext ?_
      match d with
      | 0 => rfl
      | 1 => rfl
      | 2 => rfl
    rw [hsi]
    rfl
  | 1 =>
    rw [show (takeDims wf).start x w 1 = 0 from dif_neg (show (1 : Fin 2) ∉ [(0 : Fin 2)] by decide)]
    simp only [Nat.zero_add]
    unfold GatherDims.offCoord
    rw [dif_pos ((GatherDims.mem_sKept _ _).mpr ⟨show (1 : Fin 2) ∉ [(0 : Fin 2)] by decide, List.not_mem_nil⟩)]
    rfl

/-- A word below 131072 is read signed as it is unsigned. -/
theorem word_toInt (w : BitVec 32) (h : w.toNat < 131072) : w.toInt = w.toNat := by
  have := BitVec.toInt_eq_toNat_cond w
  split at this <;> omega

abbrev SUnit : Shape := ⟨0, ![]⟩
abbrev SOne : Shape := ⟨1, ![1]⟩
abbrev SOne3 : Shape := ⟨3, ![1, 1, 1]⟩

/-- The index array as the reference gathers at it: negative words wrapped, a last axis added. In range nothing is wrapped. -/
theorem starts_eq (h : ∀ i, (idx i).toNat < 131072) (hz : SUnit.BroadcastsInDim SIdx (![] : Fin 0 → Fin SIdx.rank))
    (hw : SIdx.BroadcastsInDim SIdx1 (![0, 1] : Fin 2 → Fin SIdx1.rank)) :
    broadcastInDim SIdx1 ![0, 1] hw (select (cmpi .slt idx (broadcastInDim SIdx ![] hz (constantI SUnit 32 0#32)))
      (addi idx (broadcastInDim SIdx ![] hz (constantI SUnit 32 131072#32))) idx) = fun y => idx (idxAt (y 0) (y 1)) := by
  funext y
  rw [broadcastInDim_apply _ hw _ y (idxAt (y 0) (y 1)) (fun ax => by
    match ax with
    | 0 => rfl
    | 1 => rfl)]
  show Scalar.select (IntOp.cmpi .slt (idx (idxAt (y 0) (y 1))) 0#32) _ _ = _
  unfold Scalar.select
  rw [if_neg]
  intro e
  have := (StableHlo.Predicate.slt_iff_toNat (by have := h (idxAt (y 0) (y 1)); omega) (by decide)).1 e
  exact absurd this (Nat.not_lt_zero _)

/-- The take of a table as the reference spells it: the negative indices wrapped, the rows gathered, and a constant put
    where an index is out of range. In range it is the lookup. -/
theorem take_eq (h : ∀ i, (idx i).toNat < 131072) (wf : GatherDims.WF SHalf SIdx1 SOut [2] [0] [] [0] [] 2 ![1, 64])
    (tab : SHalf.Idx → α) (out : SOut.Idx → α) (w : SIdx1.Idx → BitVec 32) (ew : w = fun y => idx (idxAt (y 0) (y 1)))
    (h1 : SUnit.BroadcastsInDim SIdx1 (![] : Fin 0 → Fin SIdx1.rank))
    (h2 : SOne.BroadcastsInDim SOne3 (![2] : Fin 1 → Fin SOne3.rank))
    (h3 : SOne3.BroadcastsInDim SIdx1 (![0, 1, 2] : Fin 3 → Fin SIdx1.rank))
    (h4 : SIdx1.ReducesTo [2] SIdx) (h5 : 0 < SUnit.numel)
    (h6 : SIdx.BroadcastsInDim SOut (![0, 1] : Fin 2 → Fin SOut.rank)) :
    select (broadcastInDim SOut ![0, 1] h6 (Host.reduce IntOp.andi
        (andi (cmpi .sge w (broadcastInDim SIdx1 ![] h1 (constantI SUnit 32 0#32)))
          (cmpi .sle w (broadcastInDim SIdx1 ![0, 1, 2] h3 (broadcastInDim SOne3 ![2] h2 (constantI SOne 32 131071#32)))))
        (constantI SUnit 1 1#1) h4 h5))
      (Host.gather (takeDims wf) tab w) out = looked tab idx := by
  subst ew
  funext x
  show Scalar.select (Host.reduce IntOp.andi _ _ h4 h5 _) (Host.gather (takeDims wf) tab _ x) (out x) = _
  rw [Host.reduce_andi_one _ _ h4 h5 _ rfl (fun i => by
    have hi := h (idxAt (i 0) (i 1))
    show IntOp.andi (IntOp.cmpi .sge (idx (idxAt (i 0) (i 1))) 0#32) (IntOp.cmpi .sle (idx (idxAt (i 0) (i 1))) 131071#32) = 1#1
    rw [IntOp.andi_eq_one]
    refine ⟨(StableHlo.Predicate.sge_iff_toNat (by omega) (by decide)).2 (Nat.zero_le _), (StableHlo.Predicate.sle_iff_toNat (by omega) (by decide)).2 ?_⟩
    show (idx (idxAt (i 0) (i 1))).toNat ≤ 131071
    omega)]
  unfold Scalar.select
  rw [if_pos (show (1#1 : BitVec 1) = 1 from rfl), take_apply]
  unfold looked
  congr 2
  have hi := h (idxAt (x 0) (x 1))
  refine Fin.ext ?_
  show min (idx (idxAt (x 0) (x 1))).toInt.toNat 131071 = (idx (idxAt (x 0) (x 1))).toNat % 131072
  rw [word_toInt _ hi, Int.toNat_natCast, Nat.mod_eq_of_lt hi]
  omega

end Cert.Rows

end
-- ==== Proof.Range.lean ====
/-
  The precondition read back: where it holds, every index names a row of the tables.
-/
module

public import proofs.«01_k».proof.Defs
public import proofs.«01_k».proof.Proof.Halves

@[expose] public section

namespace Cert.Rows

open Idealize.ShloMosaic Cert.Pre_in_range

theorem in_range_of_pre [Cert.Pre_in_range.Facts] {F : FTy → Type} [FloatOps F] (x : FVec F S4x8192x2048 .f32) (idx : IVec S4x8192 32)
    (a b : FVec F S131072x64 .f32) (h : Cert.Pre_in_range.fn x idx a b = fun _ => 1#1) (i : S4x8192.Idx) : (idx i).toNat < 131072 := by
  have e := congrFun h (fun ax => ax.elim0)
  unfold Cert.Pre_in_range.fn at e
  haveI : Subsingleton S_.Idx := ⟨fun p q => funext fun ax => ax.elim0⟩
  exact word_lt _ (Host.reduce_andi_all _ _ _ _ _ e i)

end Cert.Rows

end
-- ==== Proof.KernelIdeal.Blocks.lean ====
/-
  What one task of the SparseCore call holds: the labels and the ghost state, the three arrays and how they are dealt to
  the 32 vector subcores, and the tile's own buffers and semaphores.
-/
module

public import proofs.«01_k».proof.Defs
public import proofs.«01_k».proof.Proof.Gathered
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Tactic
public import proofs.«01_k».proof.Proof.Gen.KernelIdeal
public import proofs.«01_k».proof.Proof.Gen.KernelIdeal.Skeleton

@[expose] public section

noncomputable section

namespace Cert.KernelIdeal.Task

open Cert.KernelIdeal Cert.KernelIdeal.Gen Cert.Rows

open Idealize.ShloMosaic
open Idealize.ShloMosaic.SparseCore (V)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program's labels, and the ghost state of its handshakes and transfers -/

abbrev Lab : Labels := Pipeline.Sig Λ₀ (Fin 0) fun p => (pcfgs (F := F) p).Adm
abbrev K : SparseCore.Cfg τ sig (Lab (F := F)) 1 := sc (F := F)
abbrev noVar : Variants := Variants.none

abbrev UHand : Type := URounds (GSem nD τ sig) ℕ
abbrev UAll : Type := UHand × Counters

local notation "𝕄" => MT nD τ sig (HIx 1) (Elt F) ℕ UAll ℕ

/-! ## The arrays -/

abbrev tabLoc (d : Dev nD) : Loc nD τ sig := (SparseCore.T d).loc main_v0
abbrev listLoc (d : Dev nD) : Loc nD τ sig := (SparseCore.T d).loc main_v1
abbrev outLoc (d : Dev nD) : Loc nD τ sig := (SparseCore.T d).loc main_v2

local notation "tabM" => (Memref.whole Cert.KernelIdeal.main_v0_scv : Memref Cert.KernelIdeal.sig Kind.scVector Space.hbm Cert.KernelIdeal.S131072x128 EltTy.f32)
local notation "listM" => (Memref.whole Cert.KernelIdeal.main_v1_scv : Memref Cert.KernelIdeal.sig Kind.scVector Space.hbm Cert.KernelIdeal.S32768 EltTy.i32)
local notation "outM" => (Memref.whole Cert.KernelIdeal.main_v2_scv : Memref Cert.KernelIdeal.sig Kind.scVector Space.hbm Cert.KernelIdeal.S32768x128 EltTy.f32)
local notation "idxM" => (Memref.whole Cert.KernelIdeal.cc0_scratch0 : Memref Cert.KernelIdeal.sig Kind.scVector Space.vmem Cert.KernelIdeal.S1024 EltTy.i32)
local notation "rowM" => (Memref.whole Cert.KernelIdeal.cc0_scratch1 : Memref Cert.KernelIdeal.sig Kind.scVector Space.vmem Cert.KernelIdeal.S512x128 EltTy.f32)

/-! ## How the arrays are dealt: the list in 32 blocks, the result in 64, the table in 32 read shares -/

theorem list_div : 32 ∣ S32768.size 0 := ⟨1024, rfl⟩
theorem out_div : 64 ∣ S32768x128.size 0 := ⟨512, rfl⟩
abbrev listRect (w : Fin 32) : Rect S32768 := Rect.part (s := S32768) (a₀ := 0) list_div w
abbrev outRect (k : Fin 64) : Rect S32768x128 := Rect.part (s := S32768x128) (a₀ := 0) out_div k
abbrev listSet (w : Fin 32) : Finset S32768.Idx := ((listM).view.slice (listRect w)).set
abbrev outSet (k : Fin 64) : Finset S32768x128.Idx := ((outM).view.slice (outRect k)).set

/-- Worker `w`'s share of the table. -/
abbrev tabShare (w : Fin 32) : PosShare TreeShare := pieceOf fullShare 32 (by decide) w

/-- The worker on SparseCore `c`, tile `s`, and its two blocks of the result. -/
abbrev worker (c : Fin 2) (s : Fin 16) : Fin 32 := ⟨2 * s.val + c.val, by omega⟩
abbrev block (w : Fin 32) (r : Fin 2) : Fin 64 := ⟨2 * w.val + r.val, by omega⟩

abbrev listPts (d : Dev nD) (w : Fin 32) (f : Buf (Elt F) (listLoc d)) : sProp 𝕄 := listLoc d ↦[listSet w]{fullShare} f
abbrev tabPts (d : Dev nD) (w : Fin 32) (f : Buf (Elt F) (tabLoc d)) : sProp 𝕄 := tabLoc d ↦{tabShare w} f
abbrev outPts (d : Dev nD) (k : Fin 64) (f : Buf (Elt F) (outLoc d)) : sProp 𝕄 := outLoc d ↦[outSet k]{fullShare} f

variable [FloatOps F]

section Task

variable (d : Dev nD) (L : grid0.Coords)

abbrev core (L : grid0.Coords) : Fin τ.nSC := (L 0).castLE hcore0
abbrev tile (L : grid0.Coords) : Fin τ.nSub := (L 1).castLE hsub0
omit [FloatOps F] in
theorem bound_core : grid0.bound 0 = 2 := rfl
omit [FloatOps F] in
theorem bound_tile : grid0.bound 1 = 16 := rfl
abbrev me (L : grid0.Coords) : Fin 32 :=
  ⟨2 * (L 1).val + (L 0).val, by have h0 : (L 0).val < 2 := (L 0).isLt; have h1 : (L 1).val < 16 := (L 1).isLt; omega⟩

/-- The task's slices, as the program spells them: its words of the list, the table, the two halves of its index
    scratch, its two blocks of the result. -/
abbrev listK (L : grid0.Coords) : Memref sig .scVector .hbm S1024 .i32 :=
  (listM).slice (Rect.unit (s := S32768) (k0_off1 L) S1024.size (k0_off1_inb L)) (fun _ => rfl)
abbrev tabK : Memref sig .scVector .hbm S131072x128 .f32 :=
  (tabM).slice (Rect.unit (s := S131072x128) ![0, 0] S131072x128.size inb_S131072x128_S131072x128_0_0) (fun _ => rfl)
abbrev idxK0 : Memref sig .scVector .vmem S512 .i32 := (idxM).slice (Rect.unit (s := S1024) ![0] S512.size inb_S1024_S512_0) (fun _ => rfl)
abbrev idxK1 : Memref sig .scVector .vmem S512 .i32 := (idxM).slice (Rect.unit (s := S1024) ![512] S512.size inb_S1024_S512_512) (fun _ => rfl)
abbrev outK0 (L : grid0.Coords) : Memref sig .scVector .hbm S512x128 .f32 :=
  (outM).slice (Rect.unit (s := S32768x128) (k0_off2 L 0#32) S512x128.size (k0_off2_inb L 0)) (fun _ => rfl)
abbrev outK1 (L : grid0.Coords) : Memref sig .scVector .hbm S512x128 .f32 :=
  (outM).slice (Rect.unit (s := S32768x128) (k0_off2 L 512#32) S512x128.size (k0_off2_inb L 1)) (fun _ => rfl)

omit [FloatOps F] in
theorem me_val : (me L).val = 2 * (L 1).val + (L 0).val := rfl
omit [FloatOps F] in
theorem block_val (w : Fin 32) (r : Fin 2) : (block w r).val = 2 * w.val + r.val := rfl

omit [FloatOps F] in
theorem listRectK_eq : Rect.unit (s := S32768) (k0_off1 L) S1024.size (k0_off1_inb L) = listRect (me L) := by
  unfold listRect Rect.part Rect.block
  congr 1 <;> funext a
  · rw [k0_off1_eq]
    match a with
    | 0 => simp [Shape.partIx, Shape.partSize, me_val]; omega
  · match a with
    | 0 => simp [Shape.partSize]
omit [FloatOps F] in
theorem outRectK_eq (r : Fin 2) : Rect.unit (s := S32768x128) (k0_off2 L (BitVec.ofNat 32 (512 * r.val))) S512x128.size (k0_off2_inb L r)
    = outRect (block (me L) r) := by
  unfold outRect Rect.part Rect.block
  congr 1 <;> funext a
  · rw [k0_off2_eq]
    match a with
    | 0 => simp [Shape.partIx, Shape.partSize, block_val, me_val]; omega
    | 1 => simp [Shape.partIx, Shape.partSize]
  · match a with
    | 0 => simp [Shape.partSize]
    | 1 => simp [Shape.partSize]

omit [FloatOps F] in
theorem set_listK : (listK L).view.set = listSet (me L) := by
  have h : (listK L).view.set = ((listM).view.slice (Rect.unit (s := S32768) (k0_off1 L) S1024.size (k0_off1_inb L))).set := rfl
  rw [h, listRectK_eq]
omit [FloatOps F] in
theorem set_outK0 : (outK0 L).view.set = outSet (block (me L) 0) := by
  have h : (outK0 L).view.set = ((outM).view.slice (Rect.unit (s := S32768x128) (k0_off2 L 0#32) S512x128.size (k0_off2_inb L 0))).set := rfl
  have e : Rect.unit (s := S32768x128) (k0_off2 L 0#32) S512x128.size (k0_off2_inb L 0) = outRect (block (me L) 0) := outRectK_eq L 0
  rw [h, e]
omit [FloatOps F] in
theorem set_outK1 : (outK1 L).view.set = outSet (block (me L) 1) := by
  have h : (outK1 L).view.set = ((outM).view.slice (Rect.unit (s := S32768x128) (k0_off2 L 512#32) S512x128.size (k0_off2_inb L 1))).set := rfl
  have e : Rect.unit (s := S32768x128) (k0_off2 L 512#32) S512x128.size (k0_off2_inb L 1) = outRect (block (me L) 1) := outRectK_eq L 1
  rw [h, e]

/-! The same holdings, spelt for the launch and for the task. -/

omit [FloatOps F] in
theorem pts_listK (f : Buf (Elt F) (listLoc d)) :
    ((listK L).view.loc (V d (core L) (tile L)) ↦[(listK L).view.set]{fullShare} f : sProp 𝕄) = listPts d (me L) f := by rw [set_listK]
omit [FloatOps F] in
theorem pts_outK0 (f : Buf (Elt F) (outLoc d)) :
    ((outK0 L).view.loc (V d (core L) (tile L)) ↦[(outK0 L).view.set]{fullShare} f : sProp 𝕄) = outPts d (block (me L) 0) f := by rw [set_outK0]
omit [FloatOps F] in
theorem pts_outK1 (f : Buf (Elt F) (outLoc d)) :
    ((outK1 L).view.loc (V d (core L) (tile L)) ↦[(outK1 L).view.set]{fullShare} f : sProp 𝕄) = outPts d (block (me L) 1) f := by rw [set_outK1]
omit [FloatOps F] in
theorem pts_tabM (q : PosShare TreeShare) (f : Buf (Elt F) (tabLoc d)) :
    ((tabM).view.loc (V d (core L) (tile L)) ↦{q} f : sProp 𝕄) = tabLoc d ↦{q} f := rfl
omit [FloatOps F] in
theorem pts_idxM (f : Buf (Elt F) ((V d (core L) (tile L)).loc cc0_scratch0)) :
    ((idxM).view.loc (V d (core L) (tile L)) ↦{fullShare} f : sProp 𝕄) = (V d (core L) (tile L)).loc cc0_scratch0 ↦{fullShare} f := rfl
omit [FloatOps F] in
theorem pts_rowM (f : Buf (Elt F) ((V d (core L) (tile L)).loc cc0_scratch1)) :
    ((rowM).view.loc (V d (core L) (tile L)) ↦{fullShare} f : sProp 𝕄) = (V d (core L) (tile L)).loc cc0_scratch1 ↦{fullShare} f := rfl

/-! ## The tile's own storage: the two scratch buffers and the four DMA cells out of it -/

abbrev cell (d : Dev nD) (c : Fin τ.nSC) (i : Fin τ.nSub) (s : DmaSems sig S_) : GSem nD τ sig := (V d c i, .dma s.sem)

/-- The tile's cells other than the four that the task uses. -/
abbrev otherCells (d : Dev nD) (c : Fin τ.nSC) (i : Fin τ.nSub) : Finset (GSem nD τ sig) :=
  ((((ownCells (V d c i)).erase (cell d c i cc0_scoped0)).erase (cell d c i cc0_scratch2)).erase (cell d c i cc0_scoped1)).erase (cell d c i cc0_scoped2)

omit [FloatOps F] in
theorem mem_cells (c : Fin τ.nSC) (i : Fin τ.nSub) (s : DmaSems sig S_) (h : (SemLoc.dma s.sem : SemLoc sig).isScoped .scVector = true) :
    cell d c i s ∈ ownCells (V d c i) := (mem_ownCells (g := cell d c i s)).mpr ⟨rfl, h⟩
omit [FloatOps F] in
theorem cell_ne (c : Fin τ.nSC) (i : Fin τ.nSub) (s t : DmaSems sig S_) (h : (SemLoc.dma s.sem : SemLoc sig) ≠ .dma t.sem) : cell d c i s ≠ cell d c i t :=
  fun e => h (congrArg Prod.snd e)

omit [FloatOps F] in
theorem ownSems0_task :
    (ownSems0 (V d (core L) (tile L)) : sProp 𝕄)
      = iprop(semVal (cell d (core L) (tile L) cc0_scoped0) 0 ∗ semVal (cell d (core L) (tile L) cc0_scratch2) 0
          ∗ semVal (cell d (core L) (tile L) cc0_scoped1) 0 ∗ semVal (cell d (core L) (tile L) cc0_scoped2) 0
          ∗ bigSep (otherCells d (core L) (tile L)) fun g => semVal g 0) := by
  unfold SparseCore.Cfg.ownSems0
  have m0 := mem_cells d (core L) (tile L) cc0_scoped0 (by decide)
  have m1 := mem_cells d (core L) (tile L) cc0_scratch2 (by decide)
  have m2 := mem_cells d (core L) (tile L) cc0_scoped1 (by decide)
  have m3 := mem_cells d (core L) (tile L) cc0_scoped2 (by decide)
  have n10 := cell_ne d (core L) (tile L) cc0_scratch2 cc0_scoped0 (by decide)
  have n20 := cell_ne d (core L) (tile L) cc0_scoped1 cc0_scoped0 (by decide)
  have n21 := cell_ne d (core L) (tile L) cc0_scoped1 cc0_scratch2 (by decide)
  have n30 := cell_ne d (core L) (tile L) cc0_scoped2 cc0_scoped0 (by decide)
  have n31 := cell_ne d (core L) (tile L) cc0_scoped2 cc0_scratch2 (by decide)
  have n32 := cell_ne d (core L) (tile L) cc0_scoped2 cc0_scoped1 (by decide)
  rw [SparseCore.bigSep_erase' m0, SparseCore.bigSep_erase' (Finset.mem_erase.mpr ⟨n10, m1⟩),
    SparseCore.bigSep_erase' (Finset.mem_erase.mpr ⟨n21, Finset.mem_erase.mpr ⟨n20, m2⟩⟩),
    SparseCore.bigSep_erase' (Finset.mem_erase.mpr ⟨n32, Finset.mem_erase.mpr ⟨n31, Finset.mem_erase.mpr ⟨n30, m3⟩⟩⟩)]

/-- The tile's buffers other than the task's two scratches. -/
abbrev otherBufs (c : Fin τ.nSC) (i : Fin τ.nSub) : Finset (DevRef τ sig) :=
  ((ownRefs (τ := τ) (.scVector c i)).erase ((Proc.scVector c i).devRef cc0_scratch0)).erase ((Proc.scVector c i).devRef cc0_scratch1)

omit [FloatOps F] in
theorem ownBufs_task :
    (ownBufs (V d (core L) (tile L)) : sProp 𝕄)
      = iprop((∃ f, (V d (core L) (tile L)).loc cc0_scratch0 ↦{fullShare} f) ∗ (∃ f, (V d (core L) (tile L)).loc cc0_scratch1 ↦{fullShare} f)
          ∗ bigSep (otherBufs (core L) (tile L)) fun b => iprop(∃ f, ((d, b) : Loc nD τ sig) ↦{fullShare} f)) := by
  unfold SparseCore.Cfg.ownBufs
  have m0 := SparseCore.Cfg.mem_ownRefs_of_owner (p := Proc.scVector (core L) (tile L)) (b := (Proc.scVector (core L) (tile L)).devRef cc0_scratch0) rfl
  have m1 := SparseCore.Cfg.mem_ownRefs_of_owner (p := Proc.scVector (core L) (tile L)) (b := (Proc.scVector (core L) (tile L)).devRef cc0_scratch1) rfl
  have n10 : (Proc.scVector (core L) (tile L)).devRef cc0_scratch1 ≠ (Proc.scVector (core L) (tile L)).devRef cc0_scratch0 := fun e =>
    absurd (Proc.devRef_injective _ e) (show (cc0_scratch1 : Ref sig .scVector) ≠ cc0_scratch0 by decide)
  refine (SparseCore.bigSep_erase' m0).trans ?_
  rw [SparseCore.bigSep_erase' (Finset.mem_erase.mpr ⟨n10, m1⟩)]

/-- What the fetch leaves in the index scratch: the task's 1024 words. -/
abbrev fetched (idx : Buf (Elt F) (listLoc d)) : Buf (Elt F) ((V d (core L) (tile L)).loc cc0_scratch0) :=
  (listK L).view.read (Elt F) idx

omit [FloatOps F] in
theorem fetched_lt (idx : Buf (Elt F) (listLoc d)) (hidx : InRange idx) (x : S1024.Idx) : (show BitVec 32 from fetched d L idx x).toNat < 131072 := by
  unfold fetched
  rw [show (listK L).view.read (Elt F) idx x = idx ((listK L).view.emb x) from (View.read_apply _ _).trans (cast_eq _ _)]
  exact hidx _

end Task

end Cert.KernelIdeal.Task

end
-- ==== Proof.KernelIdeal.Landed.lean ====
/-
  What the copies of a task land: the payload of each of its two gathers, and each block of the result after its copy.
-/
module

public import proofs.«01_k».proof.Proof.KernelIdeal.Blocks

@[expose] public section

noncomputable section

namespace Cert.KernelIdeal.Task

open Cert.KernelIdeal Cert.KernelIdeal.Gen Cert.Rows

open Idealize.ShloMosaic
open Idealize.ShloMosaic.SparseCore (V)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UAll ℕ
local notation "tabM" => (Memref.whole Cert.KernelIdeal.main_v0_scv : Memref Cert.KernelIdeal.sig Kind.scVector Space.hbm Cert.KernelIdeal.S131072x128 EltTy.f32)
local notation "listM" => (Memref.whole Cert.KernelIdeal.main_v1_scv : Memref Cert.KernelIdeal.sig Kind.scVector Space.hbm Cert.KernelIdeal.S32768 EltTy.i32)
local notation "outM" => (Memref.whole Cert.KernelIdeal.main_v2_scv : Memref Cert.KernelIdeal.sig Kind.scVector Space.hbm Cert.KernelIdeal.S32768x128 EltTy.f32)
local notation "idxM" => (Memref.whole Cert.KernelIdeal.cc0_scratch0 : Memref Cert.KernelIdeal.sig Kind.scVector Space.vmem Cert.KernelIdeal.S1024 EltTy.i32)
local notation "rowM" => (Memref.whole Cert.KernelIdeal.cc0_scratch1 : Memref Cert.KernelIdeal.sig Kind.scVector Space.vmem Cert.KernelIdeal.S512x128 EltTy.f32)

variable [FloatOps F]

section Task

variable (d : Dev nD) (L : grid0.Coords)

/-! ## What the copies land -/

omit [FloatOps F] in
theorem listK_emb_val (x : S1024.Idx) : (((listK L).view.emb x) 0).val = 1024 * (me L).val + (x 0).val := by
  have h : (((listK L).view.emb x) 0).val = (k0_off1 L) 0 + 1 * (x 0).val := rfl
  rw [h, k0_off1_eq]; simp only [Matrix.cons_val_zero]; omega
omit [FloatOps F] in
theorem outK0_emb_val (y : S512x128.Idx) : (((outK0 L).view.emb y) 0).val = 1024 * (me L).val + (y 0).val := by
  have h : (((outK0 L).view.emb y) 0).val = (k0_off2 L (BitVec.ofNat 32 (512 * (0 : Fin 2).val))) 0 + 1 * (y 0).val := rfl
  rw [h, k0_off2_eq]; simp only [Matrix.cons_val_zero, Fin.val_zero]; omega
omit [FloatOps F] in
theorem outK1_emb_val (y : S512x128.Idx) : (((outK1 L).view.emb y) 0).val = 1024 * (me L).val + (512 + (y 0).val) := by
  have h : (((outK1 L).view.emb y) 0).val = (k0_off2 L (BitVec.ofNat 32 (512 * (1 : Fin 2).val))) 0 + 1 * (y 0).val := rfl
  rw [h, k0_off2_eq]; simp only [Matrix.cons_val_zero, Fin.val_one]; omega
omit [FloatOps F] in
theorem outK0_emb_lane (y : S512x128.Idx) : (((outK0 L).view.emb y) 1).val = (y 1).val := by
  have h : (((outK0 L).view.emb y) 1).val = (k0_off2 L (BitVec.ofNat 32 (512 * (0 : Fin 2).val))) 1 + 1 * (y 1).val := rfl
  rw [h, k0_off2_eq]; simp only [Matrix.cons_val_one, Matrix.cons_val_zero]; omega
omit [FloatOps F] in
theorem outK1_emb_lane (y : S512x128.Idx) : (((outK1 L).view.emb y) 1).val = (y 1).val := by
  have h : (((outK1 L).view.emb y) 1).val = (k0_off2 L (BitVec.ofNat 32 (512 * (1 : Fin 2).val))) 1 + 1 * (y 1).val := rfl
  rw [h, k0_off2_eq]; simp only [Matrix.cons_val_one, Matrix.cons_val_zero]; omega

/-- The table's row that entry `k` of a half of the scratch names, at lane `j`: the gather's payload, from what one
    half `v` of the scratch reads (`hv`: entry `k` of it is word `1024 * me + o + k` of the list). -/
theorem payload_eq (tab : Buf (Elt F) (tabLoc d)) (idx : Buf (Elt F) (listLoc d)) (o : ℕ) (w : S512.Idx → Elt F .i32)
    (hn : S512.numel = S512x128.size (gathers_S131072x128_S512x128 : S131072x128.Gathers 0 S512x128).axis')
    (hin : ∀ x, (show BitVec 32 from w x).toNat < S131072x128.size (gathers_S131072x128_S512x128 : S131072x128.Gathers 0 S512x128).axis)
    (y : S512x128.Idx) (z : S32768x128.Idx) (hz0 : (z 0).val = 1024 * (me L).val + (o + (y 0).val)) (hz1 : (z 1).val = (y 1).val)
    (hv : ∀ (k : S512.Idx) (n : Fin 32768), n.val = 1024 * (me L).val + (o + (k 0).val) → w k = idx (listAt n)) :
    SparseCore.gatherPayload gathers_S131072x128_S512x128 ((tabK).view.read (Elt F) tab) (SparseCore.rows w hn hin) y = gathered tab idx z := by
  have hk : ((S512.rowMajor.symm ((y 0).cast hn.symm)) 0).val = (y 0).val := by
    have e := Shape.rowMajor_val_one (S512.rowMajor.symm ((y 0).cast hn.symm))
    rw [Equiv.apply_symm_apply] at e
    exact e.symm
  have hw : w (S512.rowMajor.symm ((y 0).cast hn.symm)) = idx (listAt (z 0)) := hv _ _ (by rw [hz0, hk])
  have hlt : (show BitVec 32 from idx (listAt (z 0))).toNat < 131072 := by rw [← hw]; exact hin _
  unfold SparseCore.gatherPayload gathered
  rw [show ∀ q, (tabK).view.read (Elt F) tab q = tab ((tabK).view.emb q) from fun q => (View.read_apply _ _).trans (cast_eq _ _)]
  congr 1
  funext a
  match a with
  | 0 =>
    apply Fin.ext
    have h : (((tabK).view.emb (Shape.Gathers.idx gathers_S131072x128_S512x128 (SparseCore.rows w hn hin) y)) 0).val
        = 0 + 1 * (w (S512.rowMajor.symm ((y 0).cast hn.symm))).toNat := rfl
    rw [h, hw]
    rw [Nat.zero_add, Nat.one_mul]
    exact (Nat.mod_eq_of_lt hlt).symm
  | 1 =>
    apply Fin.ext
    have h : (((tabK).view.emb (Shape.Gathers.idx gathers_S131072x128_S512x128 (SparseCore.rows w hn hin) y)) 1).val
        = 0 + 1 * (y 1).val := rfl
    rw [h]
    show _ = (z 1).val
    omega

omit [FloatOps F] in
theorem half0 (idx : Buf (Elt F) (listLoc d)) (k : S512.Idx) (n : Fin 32768) (h : n.val = 1024 * (me L).val + (0 + (k 0).val)) :
    (idxK0).view.read (Elt F) (fetched d L idx) k = idx (listAt n) := by
  rw [show (idxK0).view.read (Elt F) (fetched d L idx) k = idx ((listK L).view.emb ((idxK0).view.emb k)) from rfl]
  congr 1
  funext a
  match a with
  | 0 =>
    apply Fin.ext
    rw [listK_emb_val]
    have e : (((idxK0).view.emb k) 0).val = 0 + 1 * (k 0).val := rfl
    rw [e]; show _ = n.val; omega
omit [FloatOps F] in
theorem half1 (idx : Buf (Elt F) (listLoc d)) (k : S512.Idx) (n : Fin 32768) (h : n.val = 1024 * (me L).val + (512 + (k 0).val)) :
    (idxK1).view.read (Elt F) (fetched d L idx) k = idx (listAt n) := by
  rw [show (idxK1).view.read (Elt F) (fetched d L idx) k = idx ((listK L).view.emb ((idxK1).view.emb k)) from rfl]
  congr 1
  funext a
  match a with
  | 0 =>
    apply Fin.ext
    rw [listK_emb_val]
    have e : (((idxK1).view.emb k) 0).val = 512 + 1 * (k 0).val := rfl
    rw [e]; show _ = n.val; omega

omit [FloatOps F] in
/-- A block written whole with a payload that is `G` at its places holds `G` on the block. -/
theorem landed0 (out G : Buf (Elt F) (outLoc d)) (p : S512x128.Idx → Elt F .f32) (h : ∀ y, p y = G ((outK0 L).view.emb y)) :
    ∀ x ∈ (outK0 L).view.set, (outK0 L).view.writes (Elt F) out [⟨Rect.whole S512x128, p⟩] x = G x := by
  intro x hx
  obtain ⟨y, -, rfl⟩ := Finset.mem_map.mp hx
  rw [← h y]
  exact (show (outK0 L).view.writes (Elt F) out [⟨Rect.whole S512x128, p⟩] ((outK0 L).view.emb y)
    = (outK0 L).view.read (Elt F) ((outK0 L).view.writes (Elt F) out [⟨Rect.whole S512x128, p⟩]) y from
      ((View.read_apply _ _).trans (cast_eq _ _)).symm).trans (congrFun (View.read_writes_whole _ _ _) y)
omit [FloatOps F] in
theorem landed1 (out G : Buf (Elt F) (outLoc d)) (p : S512x128.Idx → Elt F .f32) (h : ∀ y, p y = G ((outK1 L).view.emb y)) :
    ∀ x ∈ (outK1 L).view.set, (outK1 L).view.writes (Elt F) out [⟨Rect.whole S512x128, p⟩] x = G x := by
  intro x hx
  obtain ⟨y, -, rfl⟩ := Finset.mem_map.mp hx
  rw [← h y]
  exact (show (outK1 L).view.writes (Elt F) out [⟨Rect.whole S512x128, p⟩] ((outK1 L).view.emb y)
    = (outK1 L).view.read (Elt F) ((outK1 L).view.writes (Elt F) out [⟨Rect.whole S512x128, p⟩]) y from
      ((View.read_apply _ _).trans (cast_eq _ _)).symm).trans (congrFun (View.read_writes_whole _ _ _) y)

omit [FloatOps F] in
/-- What the row buffer reads after a fill of it whole: the fill. -/
theorem filled (fr : Buf (Elt F) ((V d (core L) (tile L)).loc cc0_scratch1)) (p : S512x128.Idx → Elt F .f32)
    (rest : List (View.Piece (Elt F) S512x128 .f32)) (y : S512x128.Idx) :
    (rowM).view.read (Elt F) ((rowM).view.writes (Elt F) fr (⟨Rect.whole cc0_scratch1.ty.shape, p⟩ :: rest)) y = p y := by
  have h := View.read_writes_cons_emb (rowM).view fr (Rect.whole cc0_scratch1.ty.shape) p rest y
  have e : (Rect.whole cc0_scratch1.ty.shape).emb y = y := by
    funext a
    apply Fin.ext
    show 0 + 1 * (y a).val = (y a).val
    omega
  exact (congrArg ((rowM).view.read (Elt F) ((rowM).view.writes (Elt F) fr (⟨Rect.whole cc0_scratch1.ty.shape, p⟩ :: rest))) e.symm).trans h

end Task

end Cert.KernelIdeal.Task

end
-- ==== Proof.KernelIdeal.Tile.lean ====
/-
  One task of the SparseCore call, at a symbolic SparseCore and tile. The task fetches its 1024 words of the index list,
  then twice: gathers the 512 rows that one half of them names into its row buffer, and copies the buffer out to its
  512 rows of the result. What it hands back: its words of the list and its share of the table as they were, and its two
  blocks of the result at the gathered rows (`Cert.Rows.gathered`).
-/
module

public import proofs.«01_k».proof.Proof.KernelIdeal.Landed

@[expose] public section

noncomputable section

namespace Cert.KernelIdeal.Task

open Cert.KernelIdeal Cert.KernelIdeal.Gen Cert.Rows

open Idealize.ShloMosaic
open Idealize.ShloMosaic.SparseCore (V)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UAll ℕ
local notation "tabM" => (Memref.whole Cert.KernelIdeal.main_v0_scv : Memref Cert.KernelIdeal.sig Kind.scVector Space.hbm Cert.KernelIdeal.S131072x128 EltTy.f32)
local notation "listM" => (Memref.whole Cert.KernelIdeal.main_v1_scv : Memref Cert.KernelIdeal.sig Kind.scVector Space.hbm Cert.KernelIdeal.S32768 EltTy.i32)
local notation "outM" => (Memref.whole Cert.KernelIdeal.main_v2_scv : Memref Cert.KernelIdeal.sig Kind.scVector Space.hbm Cert.KernelIdeal.S32768x128 EltTy.f32)
local notation "idxM" => (Memref.whole Cert.KernelIdeal.cc0_scratch0 : Memref Cert.KernelIdeal.sig Kind.scVector Space.vmem Cert.KernelIdeal.S1024 EltTy.i32)
local notation "rowM" => (Memref.whole Cert.KernelIdeal.cc0_scratch1 : Memref Cert.KernelIdeal.sig Kind.scVector Space.vmem Cert.KernelIdeal.S512x128 EltTy.f32)

variable [FloatOps F]

section Task

variable (d : Dev nD) (L : grid0.Coords)

set_option maxHeartbeats 4000000 in
/-- The task on vector subcore `(L 0, L 1)` of device `d`. -/
theorem task_run (hF : (K (F := F)).Facts) (tab : Buf (Elt F) (tabLoc d)) (idx : Buf (Elt F) (listLoc d)) (out : Buf (Elt F) (outLoc d))
    (hidx : InRange idx) (O : CellTallies nD τ sig (HIx 1)) (W : Waits sig (HIx 1)) (hO : ∀ g, O g none = 0) :
    iprop(levAts (K (F := F)).L (K (F := F)).lev ∗ emp
        ∗ (listPts d (me L) idx ∗ tabPts d (me L) tab ∗ outPts d (block (me L) 0) out ∗ outPts d (block (me L) 1) out)
        ∗ scopedBufs (V d (core L) (tile L)) ∗ scopedSems0 (V d (core L) (tile L)) ∗ owes (V d (core L) (tile L)) O W)
      ⊢ wp frame (wpE (defs₀ (F := F)) noVar (V d (core L) (tile L)) none) Set.univ
          (cc0_gather_k L tabM (Memref.isWhole_whole _) listM (Memref.isWhole_whole _) outM (Memref.isWhole_whole _)
            idxM (Memref.isWhole_whole _) rowM (Memref.isWhole_whole _) cc0_scratch2 cc0_scoped0 cc0_scoped1 cc0_scoped2)
          fun _ => iprop((listPts d (me L) idx ∗ tabPts d (me L) tab ∗ outPts d (block (me L) 0) (gathered tab idx) ∗ outPts d (block (me L) 1) (gathered tab idx))
            ∗ scopedBufs (V d (core L) (tile L)) ∗ scopedSems0 (V d (core L) (tile L))
            ∗ ∃ W', ⌜∀ p ∈ W', p ∈ W ∨ p.2 = none⌝ ∗ owes (V d (core L) (tile L)) O W') := by
  simp only [cc0_gather_k_eq_skeleton]; unfold cc0_gather_k_skel
  simp only [k0_part1_eq_skeleton]; unfold k0_part1_skel
  rw [(K (F := F)).scopedBufs_V hF d (core L) (tile L), SparseCore.Cfg.scopedSems0_V (Val := Elt F) d (core L) (tile L), ownSems0_task, ownBufs_task]
  iintro ⟨#Hlv, -, ⟨Hi, Hx, Ho0, Ho1⟩, ⟨⟨%fs, Hs⟩, ⟨%fr, Hr⟩, Hbufs⟩, ⟨HsemA, HsemG, HsemB, HsemC, Hsems⟩, HO⟩
  ihave Hmw := (show levAts (K (F := F)).L (K (F := F)).lev ⊢ Transfers.MayWaits (V d (core L) (tile L)) (default : HIx 1) O from
    (K (F := F)).mayWaits_none (thr := V d (core L) (tile L)) hO) $$ Hlv
  ihave Hi' := (Entails.of_eq (pts_listK (F := F) d L _).symm) $$ Hi
  ihave Ho0' := (Entails.of_eq (pts_outK0 (F := F) d L _).symm) $$ Ho0
  ihave Ho1' := (Entails.of_eq (pts_outK1 (F := F) d L _).symm) $$ Ho1
  ihave Hx' := (Entails.of_eq (pts_tabM (F := F) d L _ _).symm) $$ Hx
  ihave Hs' := (Entails.of_eq (pts_idxM (F := F) d L _).symm) $$ Hs
  ihave Hr' := (Entails.of_eq (pts_rowM (F := F) d L _).symm) $$ Hr
  sl_exec
  ihave Hs2 := (Entails.of_eq (show ((idxM).view.loc (V d (core L) (tile L)) ↦{fullShare} View.write (Elt F) (idxM).view fs (task_run.sl.dma0 d L idx) Finset.univ : sProp 𝕄)
      = (idxM).view.loc (V d (core L) (tile L)) ↦{fullShare} fetched d L idx by rw [View.write_whole_univ]; rfl)) $$ Hs'
  have hin0 : ∀ x, ((idxK0).view.read (Elt F) (fetched d L idx) x).toNat < S131072x128.size gathers_S131072x128_S512x128.axis := by
    intro x
    rw [show (idxK0).view.read (Elt F) (fetched d L idx) x = fetched d L idx ((idxK0).view.emb x) from (View.read_apply _ _).trans (cast_eq _ _)]
    exact fetched_lt d L idx hidx _
  have hin1 : ∀ x, ((idxK1).view.read (Elt F) (fetched d L idx) x).toNat < S131072x128.size gathers_S131072x128_S512x128.axis := by
    intro x
    rw [show (idxK1).view.read (Elt F) (fetched d L idx) x = fetched d L idx ((idxK1).view.emb x) from (View.read_apply _ _).trans (cast_eq _ _)]
    exact fetched_lt d L idx hidx _
  sl_exec
  have p0 : ∀ y, task_run.sl.dma0_1 d L tab idx fr hin0 y = gathered tab idx ((outK0 L).view.emb y) := by
    intro y
    unfold task_run.sl.dma0_1
    rw [show ∀ z : S512x128.Idx → Elt F .f32, ReadAs.same.apply z = z from fun _ => rfl]
    rw [filled d L fr (task_run.sl.gather0 d L tab idx hin0) [] y]
    unfold task_run.sl.gather0
    exact payload_eq d L tab idx 0 _ _ hin0 y _ ((outK0_emb_val L y).trans (by omega)) (outK0_emb_lane L y) (half0 d L idx)
  have p1 : ∀ y, task_run.sl.dma0_2 d L tab idx fr hin0 hin1 y = gathered tab idx ((outK1 L).view.emb y) := by
    intro y
    unfold task_run.sl.dma0_2
    rw [show ∀ z : S512x128.Idx → Elt F .f32, ReadAs.same.apply z = z from fun _ => rfl]
    rw [filled d L fr (task_run.sl.gather2 d L tab idx hin1) _ y]
    unfold task_run.sl.gather2
    exact payload_eq d L tab idx 512 _ _ hin1 y _ (outK1_emb_val L y) (outK1_emb_lane L y) (half1 d L idx)
  have G0 := landed0 d L out (gathered tab idx) (task_run.sl.dma0_1 d L tab idx fr hin0) p0
  have G1 := landed1 d L out (gathered tab idx) (task_run.sl.dma0_2 d L tab idx fr hin0 hin1) p1
  sl_step
  isplitl [Hi' Hx' Ho0' Ho1']
  · isplitl [Hi']; · iapply (Entails.of_eq (pts_listK (F := F) d L _)); iexact Hi'
    isplitl [Hx']; · iexact Hx'
    isplitl [Ho0']
    · iapply (Entails.of_eq (pts_outK0 (F := F) d L _)); iapply (Entails.of_eq (pointsTo_congr G0)); iexact Ho0'
    · iapply (Entails.of_eq (pts_outK1 (F := F) d L _)); iapply (Entails.of_eq (pointsTo_congr G1)); iexact Ho1'
  isplitl [Hs2 Hr' Hbufs]
  · isplitl [Hs2]; · iexists _; iexact Hs2
    isplitl [Hr']; · iexists _; iexact Hr'
    iexact Hbufs
  isplitl [HsemA HsemG HsemB HsemC Hsems]
  · isplitl [HsemA]; · iexact HsemA
    isplitl [HsemG]; · iexact HsemG
    isplitl [HsemB]; · iexact HsemB
    isplitl [HsemC]; · iexact HsemC
    iexact Hsems
  iexists _; isplitr
  swap; · iexact HO
  ipureintro; intro p hp
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  exact .inl hp

end Task

end Cert.KernelIdeal.Task

end
-- ==== Proof.KernelIdeal.Launch.lean ====
/-
  The launch of the SparseCore call: what the TensorCore hands to the 32 vector subcores and takes back, each task's
  obligation, and the arrays split among the subcores and joined again.
-/
module

public import proofs.«01_k».proof.Proof.KernelIdeal.Tile

@[expose] public section

noncomputable section

namespace Cert.KernelIdeal.Task

open Cert.KernelIdeal Cert.KernelIdeal.Gen Cert.Rows

open Idealize.ShloMosaic
open Idealize.ShloMosaic.SparseCore (V)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UAll ℕ
local notation "tabM" => (Memref.whole Cert.KernelIdeal.main_v0_scv : Memref Cert.KernelIdeal.sig Kind.scVector Space.hbm Cert.KernelIdeal.S131072x128 EltTy.f32)
local notation "listM" => (Memref.whole Cert.KernelIdeal.main_v1_scv : Memref Cert.KernelIdeal.sig Kind.scVector Space.hbm Cert.KernelIdeal.S32768 EltTy.i32)
local notation "outM" => (Memref.whole Cert.KernelIdeal.main_v2_scv : Memref Cert.KernelIdeal.sig Kind.scVector Space.hbm Cert.KernelIdeal.S32768x128 EltTy.f32)
local notation "idxM" => (Memref.whole Cert.KernelIdeal.cc0_scratch0 : Memref Cert.KernelIdeal.sig Kind.scVector Space.vmem Cert.KernelIdeal.S1024 EltTy.i32)
local notation "rowM" => (Memref.whole Cert.KernelIdeal.cc0_scratch1 : Memref Cert.KernelIdeal.sig Kind.scVector Space.vmem Cert.KernelIdeal.S512x128 EltTy.f32)

variable [FloatOps F]

/-! ## The launch's set-up -/

abbrev D : Defs nD τ sig (Elt F) (Lab (F := F)) := Pipeline.defs pcfgs (defs₀ (F := F))
abbrev vars : Variants := Variants.lift noVar
abbrev v₀ : vars.V := Sum.inl none
abbrev EH : Emb UHand (MT nD τ sig (HIx 1) (Elt F) ℕ UAll ℕ) := embL

omit [FloatOps F] in
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The deal

The contents of the table, the list and the result array when the call begins, on each device. -/

variable (tab : (d : Dev nD) → Buf (Elt F) (tabLoc d)) (idx : (d : Dev nD) → Buf (Elt F) (listLoc d)) (out : (d : Dev nD) → Buf (Elt F) (outLoc d))

/-- What worker `w` holds: its words of the list, its share of the table, its two blocks of the result at `o`. -/
abbrev dealt (d : Dev nD) (o : Buf (Elt F) (outLoc d)) (w : Fin 32) : sProp 𝕄 :=
  iprop(listPts d w (idx d) ∗ tabPts d w (tab d) ∗ outPts d (block w 0) o ∗ outPts d (block w 1) o)

omit [FloatOps F] in
theorem nCore_zero : (K (F := F)).nCore 0 = 2 := rfl
omit [FloatOps F] in
theorem nSub_zero : (K (F := F)).nSub 0 = 16 := rfl

/-- The worker of the call's core `c` and task `i`. -/
abbrev workerOf (c : Fin ((K (F := F)).nCore 0)) (i : Fin ((K (F := F)).nSub 0)) : Fin 32 := worker (Fin.cast nCore_zero c) (Fin.cast nSub_zero i)

/-- What the call hands over and takes back: each SparseCore the holdings of its sixteen workers, each task its
    worker's; back with the result's blocks at the gathered rows. -/
def P : (K (F := F)).Pay (nD := nD) (Val := Elt F) (Name := ℕ) (U := UAll) where
  st := fun q d c => match q with | 0 => bigSep Finset.univ fun i : Fin ((K (F := F)).nSub 0) => dealt tab idx d (out d) (workerOf (F := F) c i)
  dn := fun q d c => match q with
    | 0 => bigSep Finset.univ fun i : Fin ((K (F := F)).nSub 0) => dealt tab idx d (gathered (tab d) (idx d)) (workerOf (F := F) c i)
  go := fun q d c i => match q with | 0 => dealt tab idx d (out d) (workerOf (F := F) c i)
  td := fun q d c i => match q with | 0 => dealt tab idx d (gathered (tab d) (idx d)) (workerOf (F := F) c i)
  x := fun _ _ => iprop(emp)

instance P_storable : (P (F := F) tab idx out).IsStorable where
  st q d c := match q with
    | 0 => (inferInstance : BI.Storable (upEmb : UEmb _ 𝕄)
        (bigSep Finset.univ fun i : Fin ((K (F := F)).nSub 0) => dealt tab idx d (out d) (workerOf (F := F) c i)))
  dn q d c := match q with
    | 0 => (inferInstance : BI.Storable (upEmb : UEmb _ 𝕄)
        (bigSep Finset.univ fun i : Fin ((K (F := F)).nSub 0) => dealt tab idx d (gathered (tab d) (idx d)) (workerOf (F := F) c i)))
  go q d c i := match q with
    | 0 => (inferInstance : BI.Storable (upEmb : UEmb _ 𝕄) (dealt tab idx d (out d) (workerOf (F := F) c i)))
  td q d c i := match q with
    | 0 => (inferInstance : BI.Storable (upEmb : UEmb _ 𝕄) (dealt tab idx d (gathered (tab d) (idx d)) (workerOf (F := F) c i)))

/-! ## Each task's obligation -/

def coordsOf (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0_gather_k (coordsOf c s)
          tabM (Memref.isWhole_whole _) listM (Memref.isWhole_whole _) outM (Memref.isWhole_whole _)
          idxM (Memref.isWhole_whole _) rowM (Memref.isWhole_whole _) cc0_scratch2 cc0_scoped0 cc0_scoped1 cc0_scoped2) ⟨⟩ c s := rfl

omit [FloatOps F] in
theorem weaken_waits {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl (hidx : ∀ d, InRange (idx d)) : (K (F := F)).TileObl (D (F := F)) vars (P tab idx out) v₀ 0 := by
  intro d c i O W hO _ _
  simp only [show (P tab idx out).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) noVar _ Set.univ none _ _)
  rw [defs₀_vector]; simp only [SparseCore.onTile, hci, and_self, ↓reduceDIte]
  exact (task_run d (coordsOf ⟨_, hci.1⟩ ⟨_, hci.2⟩) facts (tab d) (idx d) (out d) (hidx d) O W hO).trans (wp_mono frame _ _ fun _ => weaken_waits)

theorem vecSplit : (K (F := F)).VecSplit' (P tab idx out) 0 := by
  intro d c
  show (bigSep Finset.univ fun i : Fin ((K (F := F)).nSub 0) => dealt tab idx d (out d) (workerOf (F := F) c i))
    ⊢ |={Set.univ}=> iprop((bigSep Finset.univ fun i : Fin ((K (F := F)).nSub 0) => dealt tab idx d (out d) (workerOf (F := F) c i))
      ∗ ((bigSep Finset.univ fun i : Fin ((K (F := F)).nSub 0) => dealt tab idx d (gathered (tab d) (idx d)) (workerOf (F := F) c i))
        -∗ bigSep Finset.univ fun i : Fin ((K (F := F)).nSub 0) => dealt tab idx d (gathered (tab d) (idx d)) (workerOf (F := F) c i)))
  iintro H; imodintro
  isplitl [H]; · iexact H
  iintro H; iexact H

/-! ## The whole arrays are the workers' holdings -/

omit [FloatOps F] in
theorem listSet_eq (w : Fin 32) : listSet w = (listRect w).set := by
  show ((View.whole (main_v1_scv : Ref sig .scVector)).slice (listRect w)).set = _
  rw [View.set_slice]; exact Finset.map_refl
omit [FloatOps F] in
theorem outSet_eq (k : Fin 64) : outSet k = (outRect k).set := by
  show ((View.whole (main_v2_scv : Ref sig .scVector)).slice (outRect k)).set = _
  rw [View.set_slice]; exact Finset.map_refl

omit [FloatOps F] in
theorem list_parts (d : Dev nD) (f : Buf (Elt F) (listLoc d)) :
    (listLoc d ↦{fullShare} f : sProp 𝕄) = bigSep Finset.univ fun w : Fin 32 => listPts d w f := by
  have hd : ∀ i ∈ (Finset.univ : Finset (Fin 32)), ∀ j ∈ (Finset.univ : Finset (Fin 32)), i ≠ j → Disjoint (listSet i) (listSet j) :=
    fun i _ j _ h => by rw [listSet_eq, listSet_eq]; exact Rect.part_disjoint list_div h
  have hc : (Finset.univ : Finset (Fin 32)).biUnion listSet = Finset.univ :=
    (Finset.biUnion_congr rfl fun i _ => listSet_eq i).trans (Rect.biUnion_part list_div)
  unfold listPts
  rw [← pointsTo_biUnion Finset.univ (ℓ := listLoc d) listSet hd, hc]
omit [FloatOps F] in
theorem out_parts (d : Dev nD) (f : Buf (Elt F) (outLoc d)) :
    (outLoc d ↦{fullShare} f : sProp 𝕄) = bigSep Finset.univ fun k : Fin 64 => outPts d k f := by
  have hd : ∀ i ∈ (Finset.univ : Finset (Fin 64)), ∀ j ∈ (Finset.univ : Finset (Fin 64)), i ≠ j → Disjoint (outSet i) (outSet j) :=
    fun i _ j _ h => by rw [outSet_eq, outSet_eq]; exact Rect.part_disjoint out_div h
  have hc : (Finset.univ : Finset (Fin 64)).biUnion outSet = Finset.univ :=
    (Finset.biUnion_congr rfl fun i _ => outSet_eq i).trans (Rect.biUnion_part out_div)
  unfold outPts
  rw [← pointsTo_biUnion Finset.univ (ℓ := outLoc d) outSet hd, hc]
omit [FloatOps F] in
theorem tab_parts (d : Dev nD) (f : Buf (Elt F) (tabLoc d)) :
    (tabLoc d ↦{fullShare} f : sProp 𝕄) = bigSep Finset.univ fun w : Fin 32 => tabPts d w f :=
  pointsTo_piecesOf Finset.univ f (by decide) fullShare

/-- The 64 blocks are two of each worker. -/
def blockEquiv : Fin 32 × Fin 2 ≃ Fin 64 := Equiv.ofBijective (fun p => block p.1 p.2) (by decide)
/-- The 32 workers are sixteen on each of two SparseCores. -/
def workerEquiv : Fin 2 × Fin 16 ≃ Fin 32 := Equiv.ofBijective (fun p => worker p.1 p.2) (by decide)

omit [FloatOps F] in
theorem out_blocks (d : Dev nD) (f : Buf (Elt F) (outLoc d)) :
    (outLoc d ↦{fullShare} f : sProp 𝕄) = bigSep Finset.univ fun w : Fin 32 => iprop(outPts d (block w 0) f ∗ outPts d (block w 1) f) := by
  rw [out_parts, bigSep_univ_equiv blockEquiv, bigSep_univ_prod]
  exact bigSep_congr fun w _ => bigSep_univ_two _

omit [FloatOps F] in
/-- The three arrays whole are what the 32 workers hold. -/
theorem deal (d : Dev nD) (o : Buf (Elt F) (outLoc d)) :
    (bigSep Finset.univ fun c : Fin 2 => bigSep Finset.univ fun s : Fin 16 => dealt tab idx d o (worker c s))
      = (iprop((listLoc d ↦{fullShare} idx d) ∗ (tabLoc d ↦{fullShare} tab d) ∗ outLoc d ↦{fullShare} o) : sProp 𝕄) := by
  rw [list_parts, tab_parts, out_blocks, ← bigSep_sep', ← bigSep_sep', bigSep_univ_equiv workerEquiv, bigSep_univ_prod]
  rfl

theorem st_eq (d : Dev nD) : (bigSep Finset.univ fun c : Fin ((K (F := F)).nCore 0) => (P tab idx out).st 0 d c)
    = iprop((listLoc d ↦{fullShare} idx d) ∗ (tabLoc d ↦{fullShare} tab d) ∗ outLoc d ↦{fullShare} out d) := deal tab idx d (out d)
theorem dn_eq (d : Dev nD) : (bigSep Finset.univ fun c : Fin ((K (F := F)).nCore 0) => (P tab idx out).dn 0 d c)
    = iprop((listLoc d ↦{fullShare} idx d) ∗ (tabLoc d ↦{fullShare} tab d) ∗ outLoc d ↦{fullShare} gathered (tab d) (idx d)) :=
  deal tab idx d (gathered (tab d) (idx d))

/-! ## The launch element of the ghost state -/

omit [FloatOps F] in
theorem nothing_dealt {I : Type} (s : Finset I) : (bigSep s fun _ => iprop(emp)) = (iprop(emp) : sProp 𝕄) := bigSep_emp_const s

def u₀ : UAll := (initOf (K (F := F)).hsCells (K (F := F)).hsToks, 1)

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P tab idx out).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [nothing_dealt]; iempintro
  rw [show (bigSep Finset.univ fun thr : Thread nD τ => bigSep Finset.univ fun q : Fin 1 => (P (F := F) tab idx out).x q thr) = bigSep Finset.univ fun _ => iprop(emp) from
    bigSep_congr fun _ _ => bigSep_univ_of_subsingleton (0 : Fin 1), nothing_dealt]
  iempintro

end Cert.KernelIdeal.Task

end
-- ==== Proof.KernelIdeal.Run.lean ====
/-
  The whole program: the table fused and the list flattened, the SparseCore call, the result cut in two. Every run ends
  with the program's buffers at `Vend`, the contents that the three stretches compute from the launch contents, and with
  every semaphore at zero.
-/
module

public import proofs.«01_k».proof.Proof.KernelIdeal.Launch
public import Idealize.ShloMosaic.Lib.Pipeline.Frame

@[expose] public section

noncomputable section

namespace Cert.KernelIdeal.Task

open Cert.KernelIdeal Cert.KernelIdeal.Gen Cert.Rows

open Idealize.ShloMosaic
open Idealize.ShloMosaic.SparseCore (V)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UAll ℕ

variable [FloatOps F]

/-! ## The operations beside the call, and the contents they leave -/

variable (m : (ℓ : Loc nD τ sig) → Buf (Elt F) ℓ) (ρ : Dev nD → PrngReg)

/-- The concatenation of the two tables, and the list reshaped. -/
abbrev opFuse : HloOp τ sig (Elt F) := StableHlo.binary main_arg2 main_arg3 main_v0
  ((fun a b => concatenate S131072x128 1 [⟨S131072x64, a⟩, ⟨S131072x64, b⟩] concatenates_S131072x64_S131072x64_S131072x128_d1) :
    (⟨S131072x64, .f32⟩ : BufTy).Contents (Elt F) → (⟨S131072x64, .f32⟩ : BufTy).Contents (Elt F) → (⟨S131072x128, .f32⟩ : BufTy).Contents (Elt F))
abbrev opFlat : HloOp τ sig (Elt F) := StableHlo.reshape main_arg1 main_v1 (rfl : (.i32 : EltTy) = .i32) shapeCasts_S4x8192_S32768
/-- The two halves of the result's lanes, each reshaped. -/
abbrev opLow : HloOp τ sig (Elt F) := StableHlo.unary main_v2 main_v3
  ((extractStridedSlice S32768x64 ![0, 0] · slices_S32768x128_S32768x64_0_0) :
    (⟨S32768x128, .f32⟩ : BufTy).Contents (Elt F) → (⟨S32768x64, .f32⟩ : BufTy).Contents (Elt F))
abbrev opLowR : HloOp τ sig (Elt F) := StableHlo.reshape main_v3 main_v4 (rfl : (.f32 : EltTy) = .f32) shapeCasts_S32768x64_S4x8192x64
abbrev opHigh : HloOp τ sig (Elt F) := StableHlo.unary main_v2 main_v5
  ((extractStridedSlice S32768x64 ![0, 64] · slices_S32768x128_S32768x64_0_64) :
    (⟨S32768x128, .f32⟩ : BufTy).Contents (Elt F) → (⟨S32768x64, .f32⟩ : BufTy).Contents (Elt F))
abbrev opHighR : HloOp τ sig (Elt F) := StableHlo.reshape main_v5 main_v6 (rfl : (.f32 : EltTy) = .f32) shapeCasts_S32768x64_S4x8192x64

/-- The contents at launch, when the call begins, when it has ended, and at the end. -/
def Vstart (d : Dev nD) : Valuation τ sig (Elt F) := fun b => m (d, b)
def Vcall (d : Dev nD) : Valuation τ sig (Elt F) := (opFlat (F := F)).result ((opFuse (F := F)).result (Vstart m d))
abbrev tabOf (d : Dev nD) : Buf (Elt F) (tabLoc d) := Vcall m d (Proc.devRef .tc main_v0)
abbrev idxOf (d : Dev nD) : Buf (Elt F) (listLoc d) := Vcall m d (Proc.devRef .tc main_v1)
abbrev outOf (d : Dev nD) : Buf (Elt F) (outLoc d) := Vcall m d (Proc.devRef .tc main_v2)
def Vback (d : Dev nD) : Valuation τ sig (Elt F) :=
  Function.update (Vcall m d) (Proc.devRef .tc main_v2) (gathered (tabOf m d) (idxOf m d))
def Vend (d : Dev nD) : Valuation τ sig (Elt F) :=
  (opHighR (F := F)).result ((opHigh (F := F)).result ((opLowR (F := F)).result ((opLow (F := F)).result (Vback m d))))

abbrev bufs : Finset (DevRef τ sig) := Pipeline.ucRefs τ sig
/-- The call's three arrays among them. -/
abbrev callBufs : Finset (DevRef τ sig) := {Proc.devRef .tc main_v1, Proc.devRef .tc main_v0, Proc.devRef .tc main_v2}

omit [FloatOps F] in
theorem callBufs_sub : callBufs ⊆ bufs := by decide

omit [FloatOps F] in
theorem held_callBufs (d : Dev nD) (W : Valuation τ sig (Elt F)) :
    (StableHlo.held (SparseCore.T d) callBufs W : sProp 𝕄)
      = iprop((listLoc d ↦{fullShare} W (Proc.devRef .tc main_v1)) ∗ (tabLoc d ↦{fullShare} W (Proc.devRef .tc main_v0)) ∗ outLoc d ↦{fullShare} W (Proc.devRef .tc main_v2)) := by
  unfold StableHlo.held callBufs
  rw [SparseCore.bigSep_insert' (by decide), SparseCore.bigSep_insert' (by decide), bigSep_singleton]

omit [FloatOps F] in
theorem Vback_out (d : Dev nD) : Vback m d (Proc.devRef .tc main_v2) = gathered (tabOf m d) (idxOf m d) := Function.update_self _ _ _
omit [FloatOps F] in
theorem Vback_ne (d : Dev nD) (b : DevRef τ sig) (h : b ≠ Proc.devRef .tc main_v2) : Vback m d b = Vcall m d b := Function.update_of_ne h _ _

/-! ## @main -/

abbrev FIN (d : Dev nD) : sProp 𝕄 := StableHlo.held (SparseCore.T d) bufs (Vend m d)

set_option maxHeartbeats 1000000 in
theorem hmain (κ : GSem nD τ sig → ℕ) (d : Dev nD) :
    iprop((K (F := F)).ctx EH (P (tabOf m) (idxOf m) (outOf m)) κ ∗ (K (F := F)).tcSt EH d 0 ∗ (K (F := F)).tcRes m ρ d ∗ emp)
      ⊢ wp frame (wpE ((K (F := F)).defs (D (F := F))) vars (SparseCore.T d) none) Set.univ (main d)
          fun _ => iprop((K (F := F)).tcSt EH d 1 ∗ FIN m d ∗ (K (F := F)).tcEnd d) := by
  unfold SparseCore.Cfg.tcRes SparseCore.Cfg.tcEnd
  rw [show (unscopedBufs d (fun b => m ((SparseCore.T d).loc b)) : sProp 𝕄) = StableHlo.held (SparseCore.T d) bufs (Vstart m d) from
    Pipeline.unscopedBufs_held d (Vstart m d)]
  simp only [main, wp_bind, wp_pure]
  iintro ⟨#Hctx, Hst, ⟨Hb, Hheld, Hts, -⟩, -⟩
  iapply (StableHlo.wp_hlo_within vars (SparseCore.T d) none Set.univ (op := opFuse) (S := bufs) (Pipeline.sub_ucRefs _ (StableHlo.binary_bufs_sub ..)) (V := Vstart m d)) $$ [Hb Hheld]
  · isplitl [Hb] <;> iassumption
  iintro ⟨Hb, Hheld⟩
  rw [wp_ret]; imodintro
  iapply (StableHlo.wp_hlo_within vars (SparseCore.T d) none Set.univ (op := opFlat) (S := bufs) (Pipeline.sub_ucRefs _ (StableHlo.reshape_bufs_sub ..)) (V := (opFuse (F := F)).result (Vstart m d))) $$ [Hb Hheld]
  · isplitl [Hb] <;> iassumption
  iintro ⟨Hb, Hheld⟩
  rw [wp_ret]; imodintro
  ihave Hheld := (Entails.of_eq (show (StableHlo.held (SparseCore.T d) bufs ((opFlat (F := F)).result ((opFuse (F := F)).result (Vstart m d))) : sProp 𝕄)
    = StableHlo.held (SparseCore.T d) bufs (Vcall m d) from rfl)) $$ Hheld
  ihave Hh := (Entails.of_eq ((StableHlo.held_sub_split (SparseCore.T d) callBufs_sub (Vcall m d)).trans (by rw [held_callBufs]))) $$ Hheld
  icases Hh with ⟨⟨Hi, Hx, Ho⟩, Hrest⟩
  iapply ((K (F := F)).wp_run (D (F := F)) vars (EH := EH) (P := P (tabOf m) (idxOf m) (outOf m)) κ d 0) $$ [Hst Hi Hx Ho Hb Hrest Hts]
  isplitr; · iexact Hctx
  isplitl [Hst]; · iexact Hst
  isplitl [Hi Hx Ho]
  · rw [st_eq]
    isplitl [Hi]; · iexact Hi
    isplitl [Hx]; · iexact Hx
    iexact Ho
  iintro ⟨Hst, Hdn⟩
  ihave Hdn' := (Entails.of_eq (dn_eq (tabOf m) (idxOf m) (outOf m) d)) $$ Hdn
  icases Hdn' with ⟨Hi, Hx, Ho⟩
  ihave Hheld := (show iprop(((listLoc d ↦{fullShare} idxOf m d) ∗ (tabLoc d ↦{fullShare} tabOf m d) ∗ outLoc d ↦{fullShare} gathered (tabOf m d) (idxOf m d))
      ∗ StableHlo.held (SparseCore.T d) (bufs \ callBufs) (Vcall m d)) ⊢ (StableHlo.held (SparseCore.T d) bufs (Vback m d) : sProp 𝕄) from by
    rw [StableHlo.held_sub_split (SparseCore.T d) callBufs_sub (Vback m d), held_callBufs, Vback_out, Vback_ne m d (Proc.devRef .tc main_v1) (by decide),
      Vback_ne m d (Proc.devRef .tc main_v0) (by decide),
      StableHlo.held_congr (SparseCore.T d) (S := bufs \ callBufs) (V := Vback m d) (V' := Vcall m d) fun b hb =>
        Vback_ne m d b fun e => (Finset.mem_sdiff.mp hb).2 (e ▸ by decide)]) $$ [Hi Hx Ho Hrest]
  · isplitr [Hrest]
    · isplitl [Hi]; · iexact Hi
      isplitl [Hx]; · iexact Hx
      iexact Ho
    · iexact Hrest
  iapply (StableHlo.wp_hlo_within vars (SparseCore.T d) none Set.univ (op := opLow) (S := bufs) (Pipeline.sub_ucRefs _ (StableHlo.unary_bufs_sub ..)) (V := Vback m d)) $$ [Hb Hheld]
  · isplitl [Hb] <;> iassumption
  iintro ⟨Hb, Hheld⟩
  rw [wp_ret]; imodintro
  iapply (StableHlo.wp_hlo_within vars (SparseCore.T d) none Set.univ (op := opLowR) (S := bufs) (Pipeline.sub_ucRefs _ (StableHlo.reshape_bufs_sub ..)) (V := (opLow (F := F)).result (Vback m d))) $$ [Hb Hheld]
  · isplitl [Hb] <;> iassumption
  iintro ⟨Hb, Hheld⟩
  rw [wp_ret]; imodintro
  iapply (StableHlo.wp_hlo_within vars (SparseCore.T d) none Set.univ (op := opHigh) (S := bufs) (Pipeline.sub_ucRefs _ (StableHlo.unary_bufs_sub ..))
    (V := (opLowR (F := F)).result ((opLow (F := F)).result (Vback m d)))) $$ [Hb Hheld]
  · isplitl [Hb] <;> iassumption
  iintro ⟨Hb, Hheld⟩
  rw [wp_ret]; imodintro
  iapply (StableHlo.wp_hlo_within vars (SparseCore.T d) none Set.univ (op := opHighR) (S := bufs) (Pipeline.sub_ucRefs _ (StableHlo.reshape_bufs_sub ..))
    (V := (opHigh (F := F)).result ((opLowR (F := F)).result ((opLow (F := F)).result (Vback m d))))) $$ [Hb Hheld]
  · isplitl [Hb] <;> iassumption
  iintro ⟨Hb, Hheld⟩
  rw [wp_ret]; imodintro; imodintro
  isplitl [Hst]; · iexact Hst
  isplitl [Hheld]; · iexact Hheld
  isplitl [Hb] <;> iassumption

/-! ## The run -/

omit [FloatOps F] in
/-- A final state agrees with a set of held buffers. -/
theorem held_agree (d : Dev nD) (W : Valuation τ sig (Elt F)) (s' : Phys nD τ sig (Elt F)) (S : Finset (DevRef τ sig)) :
    iprop(StableHlo.held (SparseCore.T d) S W ∗ SI s') ⊢ (⌜∀ b ∈ S, s'.mem.mem (d, b) = W b⌝ : sProp 𝕄) := by
  induction S using Finset.induction_on with
  | empty =>
    iintro -
    ipureintro; exact fun b hb => absurd hb (Finset.notMem_empty b)
  | insert a S ha ih =>
    unfold StableHlo.held
    rw [SparseCore.bigSep_insert' ha]
    iintro ⟨⟨Ha, HS⟩, HSI⟩
    ihave H := (persistent_entails_right (SI_pointsTo_agree (st := s') (ℓ := (d, a)) (I := Finset.univ) (q := fullShare) (f := W a))) $$ [HSI Ha]
    · isplitl [HSI] <;> iassumption
    icases H with ⟨%h1, HSI, -⟩
    ihave H := ih $$ [HS HSI]
    · unfold StableHlo.held
      isplitl [HS] <;> iassumption
    icases H with %h2
    ipureintro
    intro b hb
    rcases Finset.mem_insert.mp hb with rfl | hb
    · exact funext fun i => h1 i (Finset.mem_univ i)
    · exact h2 b hb

def fq (d : Dev nD) (s' : Phys nD τ sig (Elt F)) : Prop := ∀ b ∈ bufs, s'.mem.mem (d, b) = Vend m d b

/-- What every run ends with. -/
def Ends (r : PUnit × MemSt nD τ sig (Elt F)) : Prop :=
  (∀ d : Dev nD, ∀ b ∈ bufs, r.2.mem (d, b) = Vend m d b) ∧ r.2.sem = fun _ => 0

/-- What the run asks of the launch memory. -/
def PreOK : Prop := ∀ d, InRange (idxOf m d)

theorem run_main [∀ e, Nonempty (Elt F e)] (hpre : PreOK m) :
    θ_run (Cert.KernelIdeal.defs (F := F)) (Cert.KernelIdeal.threads (F := F)) ⟨m, fun _ => 0, ρ⟩ (Ends m) :=
  SparseCore.Cfg.θ_run_sc_quiescent (K := K (F := F)) (D := D (F := F)) (𝒱 := vars) (EH := EH) (P := P (tabOf m) (idxOf m) (outOf m)) (A := ∅) facts v₀
    (fun q hq => match q with | 0 => nomatch hq)
    (fun q _ => match q with | 0 => tileObl (tabOf m) (idxOf m) (outOf m) hpre)
    (fun q _ => match q with | 0 => SparseCore.Cfg.VecSplit.of_plain (vecSplit (tabOf m) (idxOf m) (outOf m)))
    m ρ main (fun _ => iprop(emp)) (FIN m) (u₀ (F := F)) (sep_elim_left.trans (hu₀ (tabOf m) (idxOf m) (outOf m))) (hmain m ρ) (fq m)
    (fun d s' => held_agree d (Vend m d) s' bufs) (Ends m) (fun _ h hz => ⟨h, hz⟩)

end Cert.KernelIdeal.Task

end
-- ==== Proof.KernelIdeal.Value.lean ====
/-
  What the kernel's buffers hold at the end: each result looks its table up at the index array, the arguments hold what they
  held at launch, and every semaphore is at zero. Asked of the launch memory: that every index names a row.
-/
module

public import proofs.«01_k».proof.Proof.KernelIdeal.Run
public import proofs.«01_k».proof.Proof.Halves

@[expose] public section

noncomputable section

namespace Cert.KernelIdeal.Task

open Cert.KernelIdeal Cert.KernelIdeal.Gen Cert.Rows
open Idealize.ShloMosaic Idealize.ShloMosaic.TcCoe Idealize.SL.Sem

variable {F : FTy → Type} [FloatOps F]
variable (m : (ℓ : Loc nD τ sig) → Buf (Elt F) ℓ) (ρ : Dev nD → PrngReg)

theorem tabOf_eq (d : Dev nD) :
    tabOf m d = concatenate S131072x128 1 [⟨S131072x64, m ((d.tc : Thread nD τ).loc main_arg2)⟩, ⟨S131072x64, m ((d.tc : Thread nD τ).loc main_arg3)⟩]
      concatenates_S131072x64_S131072x64_S131072x128_d1 := by
  unfold tabOf Vcall
  rw [StableHlo.reshape_result_ne _ _ _ _ _ _ _ (by decide), StableHlo.binary_result]
  rfl

theorem idxOf_eq (d : Dev nD) :
    idxOf m d = shapeCast S32768 (m ((d.tc : Thread nD τ).loc main_arg1)) shapeCasts_S4x8192_S32768 := by
  unfold idxOf Vcall
  rw [StableHlo.reshape_result, StableHlo.binary_result_ne _ _ _ _ _ _ _ _ (by decide)]
  rfl

/-- A buffer that no operation writes holds what it held at launch. -/
theorem Vend_arg (d : Dev nD) (b : Ref sig .tc) (h0 : b ≠ main_v0) (h1 : b ≠ main_v1) (h2 : b ≠ main_v2) (h3 : b ≠ main_v3)
    (h4 : b ≠ main_v4) (h5 : b ≠ main_v5) (h6 : b ≠ main_v6) : Vend m d (Proc.devRef .tc b) = m ((d.tc : Thread nD τ).loc b) := by
  unfold Vend
  rw [StableHlo.reshape_result_ne _ _ _ _ _ _ _ h6, StableHlo.unary_result_ne _ _ _ _ _ _ h5, StableHlo.reshape_result_ne _ _ _ _ _ _ _ h4,
    StableHlo.unary_result_ne _ _ _ _ _ _ h3, Vback_ne m d _ (StableHlo.devRef_ne_of_ne h2)]
  unfold Vcall
  rw [StableHlo.reshape_result_ne _ _ _ _ _ _ _ h1, StableHlo.binary_result_ne _ _ _ _ _ _ _ _ h0]
  rfl

theorem Vend_low (d : Dev nD) :
    Vend m d (Proc.devRef .tc main_v4) = looked (m ((d.tc : Thread nD τ).loc main_arg2)) (m ((d.tc : Thread nD τ).loc main_arg1)) := by
  unfold Vend
  rw [StableHlo.reshape_result_ne _ _ _ _ _ _ _ (by decide), StableHlo.unary_result_ne _ _ _ _ _ _ (by decide), StableHlo.reshape_result,
    StableHlo.unary_result, Vback_out, tabOf_eq, idxOf_eq]
  exact low_eq _ _ _ concatenates_S131072x64_S131072x64_S131072x128_d1 shapeCasts_S4x8192_S32768 slices_S32768x128_S32768x64_0_0
    shapeCasts_S32768x64_S4x8192x64

theorem Vend_high (d : Dev nD) :
    Vend m d (Proc.devRef .tc main_v6) = looked (m ((d.tc : Thread nD τ).loc main_arg3)) (m ((d.tc : Thread nD τ).loc main_arg1)) := by
  unfold Vend
  rw [StableHlo.reshape_result, StableHlo.unary_result, StableHlo.reshape_result_ne _ _ _ _ _ _ _ (by decide),
    StableHlo.unary_result_ne _ _ _ _ _ _ (by decide), Vback_out, tabOf_eq, idxOf_eq]
  exact high_eq _ _ _ concatenates_S131072x64_S131072x64_S131072x128_d1 shapeCasts_S4x8192_S32768 slices_S32768x128_S32768x64_0_64
    shapeCasts_S32768x64_S4x8192x64

/-- Every run of the kernel, from indices in range. -/
theorem run_values [∀ e, Nonempty (Elt F e)] (h : ∀ (c : Dev nD) i, ((m ((c.tc : Thread nD τ).loc main_arg1) : IVec S4x8192 32) i).toNat < 131072) :
    θ_run (Cert.KernelIdeal.defs (F := F)) (Cert.KernelIdeal.threads (F := F)) ⟨m, fun _ => 0, ρ⟩ fun r => (∀ c : Dev nD,
      r.2.mem ((c.tc : Thread nD τ).loc main_v4) = looked (m ((c.tc : Thread nD τ).loc main_arg2)) (m ((c.tc : Thread nD τ).loc main_arg1))
      ∧ r.2.mem ((c.tc : Thread nD τ).loc main_v6) = looked (m ((c.tc : Thread nD τ).loc main_arg3)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0 :=
  (θ_run _ _ _).mono (fun _ hr => ⟨fun c =>
      ⟨(hr.1 c (Proc.devRef .tc main_v4) (by decide)).trans (Vend_low m c), (hr.1 c (Proc.devRef .tc main_v6) (by decide)).trans (Vend_high m c),
        (hr.1 c (Proc.devRef .tc main_arg0) (by decide)).trans (Vend_arg m c main_arg0 (by decide) (by decide) (by decide) (by decide) (by decide) (by decide) (by decide)),
        (hr.1 c (Proc.devRef .tc main_arg1) (by decide)).trans (Vend_arg m c main_arg1 (by decide) (by decide) (by decide) (by decide) (by decide) (by decide) (by decide)),
        (hr.1 c (Proc.devRef .tc main_arg2) (by decide)).trans (Vend_arg m c main_arg2 (by decide) (by decide) (by decide) (by decide) (by decide) (by decide) (by decide)),
        (hr.1 c (Proc.devRef .tc main_arg3) (by decide)).trans (Vend_arg m c main_arg3 (by decide) (by decide) (by decide) (by decide) (by decide) (by decide) (by decide))⟩, hr.2⟩)
    (run_main m ρ fun d => by
      rw [idxOf_eq]
      exact flat_inRange _ shapeCasts_S4x8192_S32768 (h d))

end Cert.KernelIdeal.Task

end
-- ==== Proof.ReferenceIdeal.Value.lean ====
/-
  What the reference's buffers hold at the end, from indices in range: each result looks its table up at the index array. And
  from any launch memory: the arguments hold what they held, and every semaphore is at zero.
-/
module

public import proofs.«01_k».proof.Proof.Gen.ReferenceIdeal.Run
public import proofs.«01_k».proof.Proof.Halves
public import Idealize.ShloMosaic.Lib.Quiescent

@[expose] public section

noncomputable section

namespace Cert.ReferenceIdeal.Task

open Cert.ReferenceIdeal Cert.ReferenceIdeal.Gen Cert.Rows
open Idealize.ShloMosaic Idealize.ShloMosaic.TcCoe Idealize.SL.Sem

variable {F : FTy → Type} [FloatOps F]
variable (m : (ℓ : Loc nD τ sig) → Buf (Elt F) ℓ) (ρ : Dev nD → PrngReg)

/-- Every run of the reference leaves the arguments and the semaphores as they were. -/
theorem run_frame :
    θ_run (defs (F := F)) (onTc (τ := τ) (main (F := F))) ⟨m, fun _ => 0, ρ⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0 :=
  (θ_run _ _ _).mono (fun r hr => ⟨fun c => (hr c).2.2, sem_eq_zero_of_no_sems (by decide) r.2⟩) (Value.run m ρ)

/-- Every run of the reference, from indices in range. -/
theorem run_values (h : ∀ (c : Dev nD) i, ((m ((c.tc : Thread nD τ).loc main_arg1) : IVec S4x8192 32) i).toNat < 131072) :
    θ_run (defs (F := F)) (onTc (τ := τ) (main (F := F))) ⟨m, fun _ => 0, ρ⟩ fun r => ∀ c : Dev nD,
      r.2.mem ((c.tc : Thread nD τ).loc main_v0) = looked (m ((c.tc : Thread nD τ).loc main_arg2)) (m ((c.tc : Thread nD τ).loc main_arg1))
      ∧ r.2.mem ((c.tc : Thread nD τ).loc main_v1) = looked (m ((c.tc : Thread nD τ).loc main_arg3)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run _ _ _).mono (fun r hr c => by
    have e := starts_eq (m ((c.tc : Thread nD τ).loc main_arg1)) (h c) bcast_S_S4x8192 bcast_S4x8192_S4x8192x1_0_1
    exact ⟨(hr c).1.trans (take_eq _ (h c) _ _ _ _ e _ _ _ _ _ _), (hr c).2.1.trans (take_eq _ (h c) _ _ _ _ e _ _ _ _ _ _), (hr c).2.2⟩)
    (Value.run m ρ)

end Cert.ReferenceIdeal.Task

end
-- ==== Proof.lean ====
/-
  The claims put together. The kernel and the reference each end with the two tables looked up at the index array, so the
  value claims hold for any float instance; the frames are the same runs with their semaphores.
-/
module

public import proofs.«01_k».proof.Defs
public import proofs.«01_k».proof.Proof.Range
public import proofs.«01_k».proof.Proof.Gen.Pre_in_range
public import proofs.«01_k».proof.Proof.Kernel.Value
public import proofs.«01_k».proof.Proof.KernelIdeal.Value
public import proofs.«01_k».proof.Proof.Reference.Value
public import proofs.«01_k».proof.Proof.ReferenceIdeal.Value

@[expose] public section

noncomputable section

namespace Cert.Proof

open Idealize.ShloMosaic Idealize.SL.Sem Cert.Rows

attribute [local instance] Cert.Kernel.Gen.facts Cert.KernelIdeal.Gen.facts Cert.Reference.Gen.facts Cert.ReferenceIdeal.Gen.facts
  Cert.Pre_in_range.Gen.facts

theorem kernel_frame : quiescent_Kernel := fun m g h =>
  (θ_run _ _ _).mono (fun _ hr => ⟨fun c => (hr.1 c).2.2, hr.2⟩)
    (Cert.Kernel.Task.run_values m g fun c => in_range_of_pre _ _ _ _ (h c))

theorem kernelIdeal_frame : quiescent_KernelIdeal := fun m g h =>
  (θ_run _ _ _).mono (fun _ hr => ⟨fun c => (hr.1 c).2.2, hr.2⟩)
    (Cert.KernelIdeal.Task.run_values m g fun c => in_range_of_pre _ _ _ _ (h c))

theorem bitexact : bitexact_Kernel_Reference := fun m g m' g' h e => by
  have hi := fun c => in_range_of_pre _ _ _ _ (h c)
  refine ⟨_, _, (θ_run _ _ _).mono (fun _ hr => hr.1) (Cert.Kernel.Task.run_values m g hi),
    (θ_run _ _ _).mono (fun _ hr c => ?_) (Cert.Reference.Task.run_values m' g' fun c => by rw [(e c).2.1]; exact hi c)⟩
  exact ⟨(hr c).1.trans (by rw [(e c).2.1, (e c).2.2.1]), (hr c).2.1.trans (by rw [(e c).2.1, (e c).2.2.2]), (hr c).2.2⟩

theorem algebraic : algebraic_KernelIdeal_ReferenceIdeal := fun m g m' g' h e => by
  have hi := fun c => in_range_of_pre _ _ _ _ (h c)
  refine ⟨_, _, (θ_run _ _ _).mono (fun _ hr => hr.1) (Cert.KernelIdeal.Task.run_values m g hi),
    (θ_run _ _ _).mono (fun _ hr c => ?_) (Cert.ReferenceIdeal.Task.run_values m' g' fun c => by rw [(e c).2.1]; exact hi c)⟩
  exact ⟨(hr c).1.trans (by rw [(e c).2.1, (e c).2.2.1]), (hr c).2.1.trans (by rw [(e c).2.1, (e c).2.2.2]), (hr c).2.2⟩

theorem claim : Cert.Claim :=
  ⟨Cert.Kernel.Gen.facts, Cert.KernelIdeal.Gen.facts, Cert.Reference.Gen.facts, Cert.ReferenceIdeal.Gen.facts, Cert.Pre_in_range.Gen.facts,
    kernel_frame, kernelIdeal_frame, fun m g _ => Cert.Reference.Task.run_frame m g, fun m g _ => Cert.Reference.Task.run_frame m g,
    fun m g _ => Cert.ReferenceIdeal.Task.run_frame m g, fun m g _ => Cert.ReferenceIdeal.Task.run_frame m g, trivial, bitexact, algebraic⟩

end Cert.Proof

end
